-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_hits [hPre_finite_hits : Cert.Pre_finite_hits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_hits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_hits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_hits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_hits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_hits [hPre_finite_hits : Cert.Pre_finite_hits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_hits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_hits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_hits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_hits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_hits [hKernelIdeal : Cert.KernelIdeal.Facts] [hPre_finite_hits : Cert.Pre_finite_hits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_hits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_hits [hReferenceIdeal : Cert.ReferenceIdeal.Facts] [hPre_finite_hits : Cert.Pre_finite_hits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_hits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_hits [hKernelIdeal : Cert.KernelIdeal.Facts] [hReferenceIdeal : Cert.ReferenceIdeal.Facts] [hPre_finite_hits : Cert.Pre_finite_hits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_hits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_hits : Cert.Pre_finite_hits.Facts),
    quiescent_Kernel (hKernel := hKernel)
    ∧ quiescent_KernelIdeal (hKernelIdeal := hKernelIdeal)
    ∧ quiescent_KernelIdeal_pre_finite_hits (hKernelIdeal := hKernelIdeal) (hPre_finite_hits := hPre_finite_hits)
    ∧ quiescent_ReferenceIdeal (hReferenceIdeal := hReferenceIdeal)
    ∧ quiescent_ReferenceIdeal_pre_finite_hits (hReferenceIdeal := hReferenceIdeal) (hPre_finite_hits := hPre_finite_hits)
    ∧ preserves_Kernel_KernelIdeal
    ∧ algebraic_KernelIdeal_ReferenceIdeal_pre_finite_hits (hKernelIdeal := hKernelIdeal) (hReferenceIdeal := hReferenceIdeal) (hPre_finite_hits := hPre_finite_hits)
-- ==== Pre_finite_hits.lean ====
abbrev S50000x512 : Shape := ⟨2, ![50000, 512]⟩
abbrev S50000 : Shape := ⟨1, ![50000]⟩
abbrev S512x1 : Shape := ⟨2, ![512, 1]⟩
abbrev S1 : Shape := ⟨1, ![1]⟩
abbrev S512x32 : Shape := ⟨2, ![512, 32]⟩
abbrev S32 : Shape := ⟨1, ![32]⟩
abbrev S_ : Shape := ⟨0, ![]⟩

class Facts : Prop where
  bcast_S_S50000x512 : S_.BroadcastsInDim S50000x512 (![] : Fin 0 → Fin S50000x512.rank)
  bcast_S_S50000 : S_.BroadcastsInDim S50000 (![] : Fin 0 → Fin S50000.rank)
  bcast_S_S512x32 : S_.BroadcastsInDim S512x32 (![] : Fin 0 → Fin S512x32.rank)
  bcast_S_S32 : S_.BroadcastsInDim S32 (![] : Fin 0 → Fin S32.rank)

variable [Facts]

def fn {F : FTy → Type} [FloatOps F] (main_arg0 : FVec F S50000x512 .f32) (main_arg1 : IVec S50000 32) (main_arg2 : FVec F S512x1 .f32) (main_arg3 : FVec F S1 .f32) (main_arg4 : FVec F S512x32 .f32) (main_arg5 : FVec F S32 .f32) (main_arg6 : FVec F S_ .f32) : IVec S50000x512 1 × IVec S50000 1 × IVec S512x32 1 × IVec S32 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 32 := constantI S_ 32 0#32
  let main_v3 : IVec S50000 32 := broadcastInDim S50000 ![] bcast_S_S50000 main_c
  let main_v4 : IVec S50000 1 := cmpi .sge main_arg1 main_v3
  let main_v5 : FVec F S512x32 .f32 := Host.absf main_arg4
  let main_cst_0 : FVec F S_ .f32 := constant S_ .f32 0x7F800000#32
  let main_v6 : FVec F S512x32 .f32 := broadcastInDim S512x32 ![] bcast_S_S512x32 main_cst_0
  let main_v7 : IVec S512x32 1 := cmpf .olt main_v5 main_v6
  let main_v8 : FVec F S32 .f32 := Host.absf main_arg5
  let main_cst_1 : FVec F S_ .f32 := constant S_ .f32 0x7F800000#32
  let main_v9 : FVec F S32 .f32 := broadcastInDim S32 ![] bcast_S_S32 main_cst_1
  let main_v10 : IVec S32 1 := cmpf .olt main_v8 main_v9
  (main_v2, main_v4, main_v7, main_v10)
-- ==== Kernel.lean ====
abbrev S50000x512 : Shape := ⟨2, ![50000, 512]⟩
abbrev S50000 : Shape := ⟨1, ![50000]⟩
abbrev S512x1 : Shape := ⟨2, ![512, 1]⟩
abbrev S1 : Shape := ⟨1, ![1]⟩
abbrev S512x32 : Shape := ⟨2, ![512, 32]⟩
abbrev S32 : Shape := ⟨1, ![32]⟩
abbrev S_ : Shape := ⟨0, ![]⟩
abbrev S512x33 : Shape := ⟨2, ![512, 33]⟩
abbrev S33 : Shape := ⟨1, ![33]⟩
abbrev S33x1 : Shape := ⟨2, ![33, 1]⟩
abbrev S5x1x10000 : Shape := ⟨3, ![5, 1, 10000]⟩
abbrev S1x1 : Shape := ⟨2, ![1, 1]⟩
abbrev S10000x512 : Shape := ⟨2, ![10000, 512]⟩
abbrev S1x1x10000 : Shape := ⟨3, ![1, 1, 10000]⟩
abbrev S5x32x10000 : Shape := ⟨3, ![5, 32, 10000]⟩
abbrev S128x32 : Shape := ⟨2, ![128, 32]⟩
abbrev S128x1 : Shape := ⟨2, ![128, 1]⟩
abbrev S1x32 : Shape := ⟨2, ![1, 32]⟩
abbrev S33x10000 : Shape := ⟨2, ![33, 10000]⟩
abbrev S32x10000 : Shape := ⟨2, ![32, 10000]⟩
abbrev S1x10000 : Shape := ⟨2, ![1, 10000]⟩
abbrev S1x32x10000 : Shape := ⟨3, ![1, 32, 10000]⟩
abbrev S10000 : Shape := ⟨1, ![10000]⟩
abbrev S128x10000 : Shape := ⟨2, ![128, 10000]⟩
abbrev S128 : Shape := ⟨1, ![128]⟩
abbrev S1x128x1 : Shape := ⟨3, ![1, 128, 1]⟩
abbrev S1x1x1 : Shape := ⟨3, ![1, 1, 1]⟩

abbrev nBuf : Space → Nat
  | .hbm => 17
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x1, .f32⟩
  | .hbm, ⟨3, _⟩ => ⟨S1, .f32⟩
  | .hbm, ⟨4, _⟩ => ⟨S512x32, .f32⟩
  | .hbm, ⟨5, _⟩ => ⟨S32, .f32⟩
  | .hbm, ⟨6, _⟩ => ⟨S_, .f32⟩
  | .hbm, ⟨7, _⟩ => ⟨S512x33, .f32⟩
  | .hbm, ⟨8, _⟩ => ⟨S33, .f32⟩
  | .hbm, ⟨9, _⟩ => ⟨S33x1, .f32⟩
  | .hbm, ⟨10, _⟩ => ⟨S5x1x10000, .i32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S10000x512, .f32⟩
  | .local _ .vmem, ⟨1, _⟩ => ⟨S10000x512, .f32⟩
  | .local _ .vmem, ⟨2, _⟩ => ⟨S512x33, .f32⟩
  | .local _ .vmem, ⟨3, _⟩ => ⟨S33x1, .f32⟩
  | .local _ .vmem, ⟨4, _⟩ => ⟨S1x1x10000, .i32⟩
  | .local _ .vmem, ⟨5, _⟩ => ⟨S1x1x10000, .i32⟩
  | .local _ .vmem, ⟨6, _⟩ => ⟨S1x1, .f32⟩
  | .local _ .vmem, ⟨7, _⟩ => ⟨S5x32x10000, .bf16⟩
  | .local _ .vmem, ⟨8, _⟩ => ⟨S5x1x10000, .f32⟩
  | .local _ .vmem, ⟨9, _⟩ => ⟨S5x1x10000, .f32⟩
  | .local _ .vmem, ⟨10, _⟩ => ⟨S128x32, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S1x32, .f32⟩
  | .local _ .vmem, ⟨15, _⟩ => ⟨S128x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v24 : Index := Scalar.indexCast arg1
  let c0_10 : Index := 0#32
  let c0_11 : Index := 0#32
  ![v24.toNat, 0, 0]
def k0_off2 (i : grid0.Coords) : Fin 3 → Nat :=
  let arg1 : BitVec 32 := BitVec.ofNat 32 (i 1).val
  let v31 : Index := Scalar.indexCast arg1
  let c0_13 : Index := 0#32
  let c0_14 : Index := 0#32
  ![v31.toNat, 0, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off4 (i : grid0.Coords) : Fin 3 → Nat :=
  let arg1 : BitVec 32 := BitVec.ofNat 32 (i 1).val
  let v12 : Index := Scalar.indexCast arg1
  let c0_5 : Index := 0#32
  let c0_6 : Index := 0#32
  ![v12.toNat, 0, 0]
def k0_cond6 (i : grid0.Coords) : BitVec 1 :=
  let arg1 : BitVec 32 := BitVec.ofNat 32 (i 1).val
  let c4_i32 : BitVec 32 := 4#32
  let v70 : BitVec 1 := Scalar.cmpi .eq arg1 c4_i32
  let v71 : BitVec 32 := Scalar.extui v70
  let c0_i32_32 : BitVec 32 := 0#32
  let v72 : BitVec 1 := Scalar.cmpi .ne v71 c0_i32_32
  v72

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c4_i32 : BitVec 32 := 4#32
  let v2 : BitVec 32 := Scalar.muli c4_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x33 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S33x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x10000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S50000x512 : Shape := ⟨2, ![50000, 512]⟩
abbrev S50000 : Shape := ⟨1, ![50000]⟩
abbrev S512x1 : Shape := ⟨2, ![512, 1]⟩
abbrev S1 : Shape := ⟨1, ![1]⟩
abbrev S512x32 : Shape := ⟨2, ![512, 32]⟩
abbrev S32 : Shape := ⟨1, ![32]⟩
abbrev S_ : Shape := ⟨0, ![]⟩
abbrev S50000x1 : Shape := ⟨2, ![50000, 1]⟩
abbrev S1x1 : Shape := ⟨2, ![1, 1]⟩
abbrev S50000x32 : Shape := ⟨2, ![50000, 32]⟩
abbrev S1x32 : Shape := ⟨2, ![1, 32]⟩
abbrev S1x128 : Shape := ⟨2, ![1, 128]⟩
abbrev S50000x128 : Shape := ⟨2, ![50000, 128]⟩
abbrev S128 : Shape := ⟨1, ![128]⟩
abbrev S128x1 : Shape := ⟨2, ![128, 1]⟩
abbrev S128x32 : Shape := ⟨2, ![128, 32]⟩
abbrev S32x128 : Shape := ⟨2, ![32, 128]⟩

abbrev nBuf : Space → Nat
  | .hbm => 166
  | .vmem => 0
  | .smem => 0
  | _ => 0

abbrev hbmTy0_0 (i : Nat) : BufTy := match i % 128 with
  | 0 => ⟨S50000x512, .f32⟩
  | 1 => ⟨S50000, .i32⟩
  | 2 => ⟨S512x1, .f32⟩
  | 3 => ⟨S1, .f32⟩
  | 4 => ⟨S512x32, .f32⟩
  | 5 => ⟨S32, .f32⟩
  | 6 => ⟨S_, .f32⟩
  | 7 => ⟨S50000x1, .f32⟩
  | 8 => ⟨S1x1, .f32⟩
  | 9 => ⟨S50000x1, .f32⟩
  | 10 => ⟨S50000x1, .f32⟩
  | 11 => ⟨S50000, .f32⟩
  | 12 => ⟨S50000, .f32⟩
  | 13 => ⟨S50000, .f32⟩
  | 14 => ⟨S_, .f32⟩
  | 15 => ⟨S50000, .f32⟩
  | 16 => ⟨S50000, .f32⟩
  | 17 => ⟨S_, .f32⟩
  | 18 => ⟨S50000, .f32⟩
  | 19 => ⟨S50000, .f32⟩
  | 20 => ⟨S50000x32, .f32⟩
  | 21 => ⟨S1x32, .f32⟩
  | 22 => ⟨S50000x32, .f32⟩
  | 23 => ⟨S50000x32, .f32⟩
  | 24 => ⟨S_, .f32⟩
  | 25 => ⟨S_, .f32⟩
  | 26 => ⟨S50000x1, .i32⟩
  | 27 => ⟨S1x128, .i32⟩
  | 28 => ⟨S50000x128, .i32⟩
  | 29 => ⟨S50000x128, .i32⟩
  | 30 => ⟨S50000x128, .i1⟩
  | 31 => ⟨S50000x128, .f32⟩
  | 32 => ⟨S_, .f32⟩
  | 33 => ⟨S50000x128, .f32⟩
  | 34 => ⟨S50000x128, .i1⟩
  | 35 => ⟨S50000x1, .f32⟩
  | 36 => ⟨S_, .f32⟩
  | 37 => ⟨S_, .f32⟩
  | 38 => ⟨S50000x128, .f32⟩
  | 39 => ⟨S50000x128, .f32⟩
  | 40 => ⟨S50000x128, .f32⟩
  | 41 => ⟨S50000x128, .i32⟩
  | 42 => ⟨S_, .f32⟩
  | 43 => ⟨S_, .i32⟩
  | 44 => ⟨S128, .f32⟩
  | 45 => ⟨S128, .i32⟩
  | 46 => ⟨S_, .i32⟩
  | 47 => ⟨S128, .i32⟩
  | 48 => ⟨S128, .i1⟩
  | 49 => ⟨S_, .i32⟩
  | 50 => ⟨S128, .i32⟩
  | 51 => ⟨S128, .i32⟩
  | 52 => ⟨S128, .i32⟩
  | 53 => ⟨S128x1, .i32⟩
  | 54 => ⟨S128x32, .f32⟩
  | 55 => ⟨S_, .f32⟩
  | 56 => ⟨S_, .f32⟩
  | 57 => ⟨S_, .f32⟩
  | 58 => ⟨S50000, .f32⟩
  | 59 => ⟨S50000, .f32⟩
  | 60 => ⟨S_, .f32⟩
  | 61 => ⟨S50000, .f32⟩
  | 62 => ⟨S50000, .f32⟩
  | 63 => ⟨S50000, .f32⟩
  | 64 => ⟨S50000, .f32⟩
  | 65 => ⟨S_, .f32⟩
  | 66 => ⟨S50000, .f32⟩
  | 67 => ⟨S50000, .f32⟩
  | 68 => ⟨S_, .i32⟩
  | 69 => ⟨S128, .i32⟩
  | 70 => ⟨S128, .i1⟩
  | 71 => ⟨S_, .i32⟩
  | 72 => ⟨S128, .i32⟩
  | 73 => ⟨S128, .i32⟩
  | 74 => ⟨S128, .i32⟩
  | 75 => ⟨S128x1, .i32⟩
  | 76 => ⟨S128, .f32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S128x1, .i32⟩
  | 85 => ⟨S128, .f32⟩
  | 86 => ⟨S50000x32, .f32⟩
  | 87 => ⟨S_, .f32⟩
  | 88 => ⟨S50000, .f32⟩
  | 89 => ⟨S50000x1, .f32⟩
  | 90 => ⟨S128x32, .f32⟩
  | 91 => ⟨S_, .f32⟩
  | 92 => ⟨S128, .f32⟩
  | 93 => ⟨S1x128, .f32⟩
  | 94 => ⟨S50000x128, .f32⟩
  | 95 => ⟨S50000x128, .f32⟩
  | 96 => ⟨S50000x128, .f32⟩
  | 97 => ⟨S32x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S50000x1, .f32⟩
  | 108 => ⟨S1x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S_, .f32⟩
  | _ => ⟨S50000x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .i32⟩
  | 5 => ⟨S50000, .i32⟩
  | 6 => ⟨S50000, .i1⟩
  | 7 => ⟨S50000, .i32⟩
  | 8 => ⟨S_, .i32⟩
  | 9 => ⟨S_, .i32⟩
  | 10 => ⟨S_, .i32⟩
  | 11 => ⟨S_, .i1⟩
  | 12 => ⟨S_, .f32⟩
  | 13 => ⟨S_, .f32⟩
  | 14 => ⟨S50000, .f32⟩
  | 15 => ⟨S50000, .f32⟩
  | 16 => ⟨S_, .f32⟩
  | 17 => ⟨S_, .f32⟩
  | 18 => ⟨S_, .i32⟩
  | 19 => ⟨S_, .i32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_call2_v0 : Ref sig .tc := ⟨.hbm, 41, rfl⟩
abbrev main_call2_cst : Ref sig .tc := ⟨.hbm, 42, rfl⟩
abbrev main_call2_c : Ref sig .tc := ⟨.hbm, 43, rfl⟩
abbrev main_call2_v1_0 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_cst_5 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_c_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_9 : Ref sig .tc := ⟨.hbm, 77, rfl⟩
abbrev main_v42 : Ref sig .tc := ⟨.hbm, 78, rfl⟩
abbrev main_v43 : Ref sig .tc := ⟨.hbm, 79, rfl⟩
abbrev main_c_10 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_15 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_v75 : Ref sig .tc := ⟨.hbm, 118, rfl⟩
abbrev main_cst_17 : Ref sig .tc := ⟨.hbm, 119, rfl⟩
abbrev main_v76 : Ref sig .tc := ⟨.hbm, 120, rfl⟩
abbrev main_v77 : Ref sig .tc := ⟨.hbm, 121, rfl⟩
abbrev main_cst_18 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_19 : Ref sig .tc := ⟨.hbm, 127, rfl⟩
abbrev main_v82 : Ref sig .tc := ⟨.hbm, 128, rfl⟩
abbrev main_v83 : Ref sig .tc := ⟨.hbm, 129, rfl⟩
abbrev main_cst_20 : Ref sig .tc := ⟨.hbm, 130, rfl⟩
abbrev main_v84 : Ref sig .tc := ⟨.hbm, 131, rfl⟩
abbrev main_c_21 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_22 : Ref sig .tc := ⟨.hbm, 136, rfl⟩
abbrev main_v88 : Ref sig .tc := ⟨.hbm, 137, rfl⟩
abbrev main_c_23 : Ref sig .tc := ⟨.hbm, 138, rfl⟩
abbrev main_v89 : Ref sig .tc := ⟨.hbm, 139, rfl⟩
abbrev main_cst_24 : Ref sig .tc := ⟨.hbm, 140, rfl⟩
abbrev main_call4_v0 : Ref sig .tc := ⟨.hbm, 141, rfl⟩
abbrev main_call4_v1 : Ref sig .tc := ⟨.hbm, 142, rfl⟩
abbrev main_v90 : Ref sig .tc := ⟨.hbm, 143, rfl⟩
abbrev main_cst_25 : Ref sig .tc := ⟨.hbm, 144, rfl⟩
abbrev main_v91 : Ref sig .tc := ⟨.hbm, 145, rfl⟩
abbrev main_c_26 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_27 : Ref sig .tc := ⟨.hbm, 150, rfl⟩
abbrev main_call5_v0 : Ref sig .tc := ⟨.hbm, 151, rfl⟩
abbrev main_v95 : Ref sig .tc := ⟨.hbm, 152, rfl⟩
abbrev main_cst_28 : Ref sig .tc := ⟨.hbm, 153, rfl⟩
abbrev main_v96 : Ref sig .tc := ⟨.hbm, 154, rfl⟩
abbrev main_v97 : Ref sig .tc := ⟨.hbm, 155, rfl⟩
abbrev main_cst_29 : Ref sig .tc := ⟨.hbm, 156, rfl⟩
abbrev main_v98 : Ref sig .tc := ⟨.hbm, 157, rfl⟩
abbrev main_cst_30 : Ref sig .tc := ⟨.hbm, 158, rfl⟩
abbrev main_v99 : Ref sig .tc := ⟨.hbm, 159, rfl⟩
abbrev main_cst_31 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩

abbrev nD : Nat := 1
abbrev τ : Topo := Topo.v7x

variable {F : FTy → Type} [FloatOps F]
-- ==== Proof.State.lean ====
/-
  The kernel's body, run once per kind of grid point, for any element values. The nine scratch buffers are one record `St`;
  a point of the first phase takes the record to `ph0`, a point of the second to `ph1`, and the last point leaves
  `outOf` in the output's staging buffer.
-/
module

public import proofs.«01_k».proof.Proof.Gen.KernelIdeal.Frame
public import proofs.«01_k».proof.Proof.Gen.KernelIdeal.Skeleton
public import Idealize.ShloMosaic.Lib.Exec
public import Idealize.ShloMosaic.Lib.Claim
public import Idealize.ShloMosaic.Lib.Writes
public import Idealize.ShloMosaic.Lib.Pipeline.Value
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F]

local notation "𝕄" => MT nD τ sig Unit (Elt F) ℕ (UR sig nD τ) ℕ

/-! ## The scratch record and its steps -/

/-- What the nine scratch buffers hold. -/
structure St (F : FTy → Type) [FloatOps F] where
  /-- the embeddings, one slice per block -/
  ox : Vec F S5x32x10000 .bf16
  /-- their squared norms -/
  x2 : Vec F S5x1x10000 .f32
  /-- the charges -/
  q : Vec F S5x1x10000 .f32
  /-- the chosen point's embedding, per instance -/
  xal : Vec F S128x32 .f32
  /-- the largest condensation score so far, per instance -/
  bal : Vec F S128x1 .f32
  /-- where it was found -/
  sidx : Vec F S128x1 .f32
  /-- the first point's score -/
  of0 : Vec F S128x1 .f32
  /-- the first point's embedding -/
  ox0 : Vec F S1x32 .f32
  /-- the potential accumulated so far, per instance -/
  acc : Vec F S128x1 .f32

/-- The place of `k` inside its own slice of a stack of embeddings. -/
def at32 (k : S5x32x10000.Idx) : S1x32x10000.Idx := ix3 (0 : Fin 1) (k 1 : Fin 32) (k 2 : Fin 10000)
/-- The place of `k` inside its own slice of a stack of rows. -/
def at1 (k : S5x1x10000.Idx) : S1x1x10000.Idx := ix3 (0 : Fin 1) (k 1 : Fin 1) (k 2 : Fin 10000)
/-- Slice `j` of a stack of embeddings replaced by `p`. -/
def upd32 (j : Fin 5) (s : Vec F S5x32x10000 .bf16) (p : Vec F S1x32x10000 .bf16) : Vec F S5x32x10000 .bf16 :=
  fun k => if (k 0).val = j.val then p (at32 k) else s k
/-- Slice `j` of a stack of rows replaced by `p`. -/
def upd1 (j : Fin 5) (s : Vec F S5x1x10000 .f32) (p : Vec F S1x1x10000 .f32) : Vec F S5x1x10000 .f32 :=
  fun k => if (k 0).val = j.val then p (at1 k) else s k
/-- Slice `j` of a stack of embeddings. -/
def sl32 (j : Fin 5) (s : Vec F S5x32x10000 .bf16) : Vec F S1x32x10000 .bf16 := fun k => s (ix3 j (k 1 : Fin 32) (k 2 : Fin 10000))
/-- Slice `j` of a stack of rows. -/
def sl1 (j : Fin 5) (s : Vec F S5x1x10000 .f32) : Vec F S1x1x10000 .f32 := fun k => s (ix3 j (k 1 : Fin 1) (k 2 : Fin 10000))

/-- The running choice: the chosen embedding, where it was found, and its score. -/
abbrev Car (F : FTy → Type) [FloatOps F] := Vec F S128x32 .f32 × Vec F S128x1 .f32 × Vec F S128x1 .f32

/-- The running choice before any block. -/
def car0 : Car F := (k0_pay3, k0_pay2, k0_pay1)
/-- The running choice after block `j`. -/
def carStep (j : Fin 5) (x : Vec F S10000x512 .f32) (w : Vec F S512x33 .f32) (b : Vec F S33x1 .f32) (y : Vec F S1x1x10000 .i32)
    (s : Car F) : Car F :=
  (k0_pay8 (k0_pay25 (k0_pay18 x w b) y) (k0_pay29 (BitVec.ofNat 32 j.val) (k0_pay18 x w b) y)
      (k0_pay32 (k0_pay18 x w b) (k0_pay19 x w b) y) (k0_pay33 (k0_pay17 x w b) (k0_pay18 x w b) (k0_pay19 x w b) y) s.2.2 s.2.1 s.1,
    k0_pay9 (k0_pay25 (k0_pay18 x w b) y) (k0_pay29 (BitVec.ofNat 32 j.val) (k0_pay18 x w b) y) s.2.2 s.2.1,
    k0_pay10 (k0_pay25 (k0_pay18 x w b) y) s.2.2)

/-- The first point's score, from block 0. -/
def first0 (x : Vec F S10000x512 .f32) (w : Vec F S512x33 .f32) (b : Vec F S33x1 .f32) : Vec F S128x1 .f32 := k0_pay4 (k0_pay18 x w b)
/-- The first point's embedding, from block 0. -/
def firstX (x : Vec F S10000x512 .f32) (w : Vec F S512x33 .f32) (b : Vec F S33x1 .f32) : Vec F S1x32 .f32 :=
  k0_pay5 (iota .tc S1x10000 32 [1] iota_S1x10000_d1_w32) (k0_pay30 (k0_pay19 x w b)) (k0_pay31 (k0_pay17 x w b) (k0_pay19 x w b))

/-- A point of the first phase, block `j`: the block's slices stored, the running choice advanced from `s`'s. -/
def ph0 (j : Fin 5) (x : Vec F S10000x512 .f32) (w : Vec F S512x33 .f32) (b : Vec F S33x1 .f32) (y : Vec F S1x1x10000 .i32) (s : St F) : St F :=
  { ox := upd32 j s.ox (k0_pay20 x w b), x2 := upd1 j s.x2 (k0_pay21 x w b), q := upd1 j s.q (k0_pay23 (k0_pay22 x w b)),
    xal := (carStep j x w b y (s.xal, s.sidx, s.bal)).1, sidx := (carStep j x w b y (s.xal, s.sidx, s.bal)).2.1,
    bal := (carStep j x w b y (s.xal, s.sidx, s.bal)).2.2, of0 := s.of0, ox0 := s.ox0, acc := s.acc }
/-- What block 0 does before it: the running choice started. -/
def ph0i (x : Vec F S10000x512 .f32) (w : Vec F S512x33 .f32) (b : Vec F S33x1 .f32) (s : St F) : St F :=
  { s with xal := (car0 (F := F)).1, sidx := (car0 (F := F)).2.1, bal := (car0 (F := F)).2.2, of0 := first0 x w b, ox0 := firstX x w b }
/-- What the last block does after it: an instance no point belongs to takes the first point. -/
def ph0f (s : St F) : St F := { s with bal := k0_pay12 s.bal s.of0, xal := k0_pay13 s.bal s.ox0 s.xal }

/-- One block's potential added to `a`. -/
def accStep (ox : Vec F S1x32x10000 .bf16) (x2 q : Vec F S1x1x10000 .f32) (y : Vec F S1x1x10000 .i32) (xal : Vec F S128x32 .f32)
    (bal a : Vec F S128x1 .f32) : Vec F S128x1 .f32 :=
  k0_pay14 (k0_pay35 q) (k0_pay36 y) (k0_pay37 bal) (k0_pay38 ox xal) (k0_pay39 x2) (k0_pay40 xal) a
/-- A point of the second phase, block `j`. -/
def ph1 (j : Fin 5) (y : Vec F S1x1x10000 .i32) (s : St F) : St F :=
  { s with acc := accStep (sl32 j s.ox) (sl1 j s.x2) (sl1 j s.q) y s.xal s.bal s.acc }
/-- What its block 0 does before it. -/
def ph1i (s : St F) : St F := { s with acc := k0_pay34 }
/-- What the last point writes. -/
def outOf (s : St F) : Vec F S1x1 .f32 := k0_pay15 s.acc s.bal

/-! ## The accesses read back -/

theorem z2 : (![0, 0] : Fin 2 → ℕ) = fun _ => 0 := by decide
theorem z3 : (![0, 0, 0] : Fin 3 → ℕ) = fun _ => 0 := by decide

section Access
variable {V : EltTy → Type} {sg : RefSig} {κ : Kind} {sp : Space}

/-- A load of a whole buffer reads what it holds. -/
theorem readAt_whole {S : Shape} {e : EltTy} (v : View sg κ sp S e) (f : v.ty.Contents V) {off : Fin S.rank → ℕ} (h : off = fun _ => 0)
    (inb : ∀ a, off a + S.size a ≤ S.size a) : v.readAt V (Rect.unit off S.size inb).toLoadRect f = v.read V f := by
  rw [View.readAt_eq_ld, View.ld_unit_zero h]

/-- A store of a whole buffer, last, leaves its payload. -/
theorem read_whole [∀ e, Nonempty (V e)] {S : Shape} {e : EltTy} (v : View sg κ sp S e) (f : v.ty.Contents V) {off : Fin S.rank → ℕ} (h : off = fun _ => 0)
    (inb : ∀ a, off a + S.size a ≤ S.size a) (w : S.Idx → V e) (L : List (View.Piece V S e)) :
    v.read V (v.writes V f (⟨Rect.unit off S.size inb, w⟩ :: L)) = w := by
  subst h
  funext y
  exact View.read_writes_cons_hit v f _ w L y y (by show (Rect.whole S).emb y = y; rw [Rect.emb_whole_apply])
end Access

/-- The store of block `j`'s embeddings replaces slice `j`. -/
theorem read_slice32 {sg : RefSig} {κ : Kind} {sp : Space} (v : View sg κ sp S5x32x10000 .bf16) (f : v.ty.Contents (Elt F)) (j : Fin 5) {off : Fin 3 → ℕ}
    (h : off = ![j.val, 0, 0]) (inb : ∀ a, off a + S1x32x10000.size a ≤ S5x32x10000.size a) (p : Vec F S1x32x10000 .bf16) :
    v.read (Elt F) (v.writes (Elt F) f [⟨Rect.unit off S1x32x10000.size inb, p⟩]) = upd32 j (v.read (Elt F) f) p := by
  subst h
  funext k
  by_cases hk : (k 0).val = j.val
  · refine (View.read_writes_cons_hit_of_coords v f (Rect.unit (s := S5x32x10000) ![j.val, 0, 0] S1x32x10000.size inb) p [] (at32 k) k (fun a => ?_)).trans (if_pos hk).symm
    match a with
    | ⟨0, _⟩ => exact hk
    | ⟨1, _⟩ => exact (by omega : (k 1).val = 0 + 1 * (k 1).val)
    | ⟨2, _⟩ => exact (by omega : (k 2).val = 0 + 1 * (k 2).val)
  · refine (View.read_writes_cons_miss_of_axis v f _ [] k 0 j.val 1 rfl rfl rfl ?_).trans (if_neg hk).symm
    omega
/-- The store of block `j`'s row replaces slice `j`. -/
theorem read_slice1 {sg : RefSig} {κ : Kind} {sp : Space} (v : View sg κ sp S5x1x10000 .f32) (f : v.ty.Contents (Elt F)) (j : Fin 5) {off : Fin 3 → ℕ}
    (h : off = ![j.val, 0, 0]) (inb : ∀ a, off a + S1x1x10000.size a ≤ S5x1x10000.size a) (p : Vec F S1x1x10000 .f32) :
    v.read (Elt F) (v.writes (Elt F) f [⟨Rect.unit off S1x1x10000.size inb, p⟩]) = upd1 j (v.read (Elt F) f) p := by
  subst h
  funext k
  by_cases hk : (k 0).val = j.val
  · refine (View.read_writes_cons_hit_of_coords v f (Rect.unit (s := S5x1x10000) ![j.val, 0, 0] S1x1x10000.size inb) p [] (at1 k) k (fun a => ?_)).trans (if_pos hk).symm
    match a with
    | ⟨0, _⟩ => exact hk
    | ⟨1, _⟩ => exact (by omega : (k 1).val = 0 + 1 * (k 1).val)
    | ⟨2, _⟩ => exact (by omega : (k 2).val = 0 + 1 * (k 2).val)
  · refine (View.read_writes_cons_miss_of_axis v f _ [] k 0 j.val 1 rfl rfl rfl ?_).trans (if_neg hk).symm
    omega
/-- A load of block `j`'s embeddings reads slice `j`. -/
theorem readAt_slice32 {sg : RefSig} {κ : Kind} {sp : Space} (v : View sg κ sp S5x32x10000 .bf16) (f : v.ty.Contents (Elt F)) (j : Fin 5) {off : Fin 3 → ℕ}
    (h : off = ![j.val, 0, 0]) (inb : ∀ a, off a + S1x32x10000.size a ≤ S5x32x10000.size a) :
    v.readAt (Elt F) (Rect.unit (s := S5x32x10000) off S1x32x10000.size inb).toLoadRect f = sl32 j (v.read (Elt F) f) := by
  subst h
  rw [View.readAt_eq_ld]
  funext k
  refine congrArg (v.read (Elt F) f) (funext fun a => Fin.ext ?_)
  have h0 : (k 0).val < 1 := (k 0).isLt
  match a with
  | ⟨0, _⟩ => show j.val + 1 * (k 0).val = j.val; omega
  | ⟨1, _⟩ => show 0 + 1 * (k 1).val = (k 1).val; omega
  | ⟨2, _⟩ => show 0 + 1 * (k 2).val = (k 2).val; omega
/-- A load of block `j`'s row reads slice `j`. -/
theorem readAt_slice1 {sg : RefSig} {κ : Kind} {sp : Space} (v : View sg κ sp S5x1x10000 .f32) (f : v.ty.Contents (Elt F)) (j : Fin 5) {off : Fin 3 → ℕ}
    (h : off = ![j.val, 0, 0]) (inb : ∀ a, off a + S1x1x10000.size a ≤ S5x1x10000.size a) :
    v.readAt (Elt F) (Rect.unit (s := S5x1x10000) off S1x1x10000.size inb).toLoadRect f = sl1 j (v.read (Elt F) f) := by
  subst h
  rw [View.readAt_eq_ld]
  funext k
  refine congrArg (v.read (Elt F) f) (funext fun a => Fin.ext ?_)
  have h0 : (k 0).val < 1 := (k 0).isLt
  match a with
  | ⟨0, _⟩ => show j.val + 1 * (k 0).val = j.val; omega
  | ⟨1, _⟩ => show 0 + 1 * (k 1).val = (k 1).val; omega
  | ⟨2, _⟩ => show 0 + 1 * (k 2).val = (k 2).val; omega

end Cert.Proof.KernelIdeal

end
-- ==== Proof.Body.lean ====
/-
  The kernel's body run once per kind of grid point (first, middle and last block of either phase), from the scratch record
  of `State.lean`.
-/
module

public import proofs.«01_k».proof.Proof.Gen.KernelIdeal.Frame
public import proofs.«01_k».proof.Proof.Gen.KernelIdeal.Skeleton
public import Idealize.ShloMosaic.Lib.Exec
public import proofs.«01_k».proof.Proof.State
public import Idealize.ShloMosaic.Lib.Claim
public import Idealize.ShloMosaic.Lib.Writes
public import Idealize.ShloMosaic.Lib.Pipeline.Value
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F]

local notation "𝕄" => MT nD τ sig Unit (Elt F) ℕ (UR sig nD τ) ℕ

/-! ## The body at each kind of point -/

/-- The test `j = n` as the body computes it. -/
abbrev cj (i : grid0.Coords) (n : BitVec 32) : BitVec 1 :=
  Scalar.cmpi .ne (Scalar.extui (Scalar.cmpi .eq (BitVec.ofNat 32 (i 1).val) n)) 0#32

/-- The block a grid point works on. -/
def jof (i : grid0.Coords) : Fin 5 := i 1
theorem jof_val (i : grid0.Coords) : (jof i).val = (i 1).val := rfl

section Body
variable (c : Dev nD) (E : Set ℕ) (i : grid0.Coords)
    (arg2 : Memref sig .tc .vmem S10000x512 .f32) (harg2 : arg2.IsWhole) (arg3 : Memref sig .tc .vmem S512x33 .f32) (harg3 : arg3.IsWhole)
    (arg4 : Memref sig .tc .vmem S33x1 .f32) (harg4 : arg4.IsWhole) (arg5 : Memref sig .tc .vmem S1x1x10000 .i32) (harg5 : arg5.IsWhole)
    (arg6 : Memref sig .tc .vmem S1x1 .f32) (harg6 : arg6.IsWhole)
    (arg7 : Memref sig .tc .vmem S5x32x10000 .bf16) (harg7 : arg7.IsWhole) (arg8 : Memref sig .tc .vmem S5x1x10000 .f32) (harg8 : arg8.IsWhole)
    (arg9 : Memref sig .tc .vmem S5x1x10000 .f32) (harg9 : arg9.IsWhole) (arg10 : Memref sig .tc .vmem S128x32 .f32) (harg10 : arg10.IsWhole)
    (arg11 : Memref sig .tc .vmem S128x1 .f32) (harg11 : arg11.IsWhole) (arg12 : Memref sig .tc .vmem S128x1 .f32) (harg12 : arg12.IsWhole)
    (arg13 : Memref sig .tc .vmem S128x1 .f32) (harg13 : arg13.IsWhole) (arg14 : Memref sig .tc .vmem S1x32 .f32) (harg14 : arg14.IsWhole)
    (arg15 : Memref sig .tc .vmem S128x1 .f32) (harg15 : arg15.IsWhole)

/-- The nine scratch buffers at the record `s`. -/
def scr (s : St F) : sProp 𝕄 :=
  iprop(owns (c : Thread nD τ) arg7 fullShare s.ox ∗ owns (c : Thread nD τ) arg8 fullShare s.x2 ∗ owns (c : Thread nD τ) arg9 fullShare s.q
    ∗ owns (c : Thread nD τ) arg10 fullShare s.xal ∗ owns (c : Thread nD τ) arg11 fullShare s.bal ∗ owns (c : Thread nD τ) arg12 fullShare s.sidx
    ∗ owns (c : Thread nD τ) arg13 fullShare s.of0 ∗ owns (c : Thread nD τ) arg14 fullShare s.ox0 ∗ owns (c : Thread nD τ) arg15 fullShare s.acc)

/-- The four input windows at their blocks. -/
def ins (x : Vec F S10000x512 .f32) (w : Vec F S512x33 .f32) (b : Vec F S33x1 .f32) (y : Vec F S1x1x10000 .i32) : sProp 𝕄 :=
  iprop(owns (c : Thread nD τ) arg2 fullShare x ∗ owns (c : Thread nD τ) arg3 fullShare w ∗ owns (c : Thread nD τ) arg4 fullShare b
    ∗ owns (c : Thread nD τ) arg5 fullShare y)

set_option maxHeartbeats 4000000 in
/-- A middle block of the first phase. -/
theorem body_mid0 (h1 : k0_cond1 i = 1#1) (h4 : ¬ k0_cond4 i = 1#1) (ha : ¬ cj i 0#32 = 1#1) (hb : ¬ cj i 4#32 = 1#1)
    (x : Vec F S10000x512 .f32) (w : Vec F S512x33 .f32) (b : Vec F S33x1 .f32) (y : Vec F S1x1x10000 .i32) (s : St F) (K : PUnit → sProp 𝕄) :
    iprop(ins (F := F) c arg2 arg3 arg4 arg5 x w b y ∗ scr (F := F) c arg7 arg8 arg9 arg10 arg11 arg12 arg13 arg14 arg15 s ∗ (iprop(ins (F := F) c arg2 arg3 arg4 arg5 x w b y ∗ scr (F := F) c arg7 arg8 arg9 arg10 arg11 arg12 arg13 arg14 arg15 (ph0 (jof i) x w b y s)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  obtain ⟨s0, s1, s2, s3, s4, s5, s6, s7, s8⟩ := s
  sl_unfold [cc0__body]
  unfold ins scr owns
  iintro ⟨⟨⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | exact h1 | exact h4 | exact ha | exact hb)
  sl_step
  iapply Hk
  isplitl [H2 H3 H4 H5]
  · isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    iexists _; isplitr
    swap; · iexact H5
    ipureintro
    exact hf5
  isplitl [H7]
  · iexists _; isplitr
    swap; · iexact H7
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice32 _ _ (jof i) (k0_off1_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H8]
  · iexists _; isplitr
    swap; · iexact H8
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice1 _ _ (jof i) (k0_off2_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H9]
  · iexists _; isplitr
    swap; · iexact H9
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice1 _ _ (jof i) (k0_off2_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H10]
  · iexists _; isplitr
    swap; · iexact H10
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H11]
  · iexists _; isplitr
    swap; · iexact H11
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H12]
  · iexists _; isplitr
    swap; · iexact H12
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H13]
  · iexists _; isplitr
    swap; · iexact H13
    ipureintro
    exact hf13
  isplitl [H14]
  · iexists _; isplitr
    swap; · iexact H14
    ipureintro
    exact hf14
  iexists _; isplitr
  swap; · iexact H15
  ipureintro
  exact hf15

set_option maxHeartbeats 4000000 in
/-- The first block of the first phase. -/
theorem body_first0 (h1 : k0_cond1 i = 1#1) (h4 : ¬ k0_cond4 i = 1#1) (ha : cj i 0#32 = 1#1) (hb : ¬ cj i 4#32 = 1#1)
    (x : Vec F S10000x512 .f32) (w : Vec F S512x33 .f32) (b : Vec F S33x1 .f32) (y : Vec F S1x1x10000 .i32) (s : St F) (K : PUnit → sProp 𝕄) :
    iprop(ins (F := F) c arg2 arg3 arg4 arg5 x w b y ∗ scr (F := F) c arg7 arg8 arg9 arg10 arg11 arg12 arg13 arg14 arg15 s ∗ (iprop(ins (F := F) c arg2 arg3 arg4 arg5 x w b y ∗ scr (F := F) c arg7 arg8 arg9 arg10 arg11 arg12 arg13 arg14 arg15 (ph0 (jof i) x w b y (ph0i x w b s))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  obtain ⟨s0, s1, s2, s3, s4, s5, s6, s7, s8⟩ := s
  sl_unfold [cc0__body]
  unfold ins scr owns
  iintro ⟨⟨⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | exact h1 | exact h4 | exact ha | exact hb)
  sl_step
  iapply Hk
  isplitl [H2 H3 H4 H5]
  · isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    iexists _; isplitr
    swap; · iexact H5
    ipureintro
    exact hf5
  isplitl [H7]
  · iexists _; isplitr
    swap; · iexact H7
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice32 _ _ (jof i) (k0_off1_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H8]
  · iexists _; isplitr
    swap; · iexact H8
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice1 _ _ (jof i) (k0_off2_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H9]
  · iexists _; isplitr
    swap; · iexact H9
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice1 _ _ (jof i) (k0_off2_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H10]
  · iexists _; isplitr
    swap; · iexact H10
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H11]
  · iexists _; isplitr
    swap; · iexact H11
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H12]
  · iexists _; isplitr
    swap; · iexact H12
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H13]
  · iexists _; isplitr
    swap; · iexact H13
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H14]
  · iexists _; isplitr
    swap; · iexact H14
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  iexists _; isplitr
  swap; · iexact H15
  ipureintro
  exact hf15

set_option maxHeartbeats 4000000 in
/-- The last block of the first phase. -/
theorem body_last0 (h1 : k0_cond1 i = 1#1) (h4 : ¬ k0_cond4 i = 1#1) (ha : ¬ cj i 0#32 = 1#1) (hb : cj i 4#32 = 1#1)
    (x : Vec F S10000x512 .f32) (w : Vec F S512x33 .f32) (b : Vec F S33x1 .f32) (y : Vec F S1x1x10000 .i32) (s : St F) (K : PUnit → sProp 𝕄) :
    iprop(ins (F := F) c arg2 arg3 arg4 arg5 x w b y ∗ scr (F := F) c arg7 arg8 arg9 arg10 arg11 arg12 arg13 arg14 arg15 s ∗ (iprop(ins (F := F) c arg2 arg3 arg4 arg5 x w b y ∗ scr (F := F) c arg7 arg8 arg9 arg10 arg11 arg12 arg13 arg14 arg15 (ph0f (ph0 (jof i) x w b y s))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  obtain ⟨s0, s1, s2, s3, s4, s5, s6, s7, s8⟩ := s
  sl_unfold [cc0__body]
  unfold ins scr owns
  iintro ⟨⟨⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | exact h1 | exact h4 | exact ha | exact hb)
  sl_step
  iapply Hk
  isplitl [H2 H3 H4 H5]
  · isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    iexists _; isplitr
    swap; · iexact H5
    ipureintro
    exact hf5
  isplitl [H7]
  · iexists _; isplitr
    swap; · iexact H7
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice32 _ _ (jof i) (k0_off1_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H8]
  · iexists _; isplitr
    swap; · iexact H8
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice1 _ _ (jof i) (k0_off2_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H9]
  · iexists _; isplitr
    swap; · iexact H9
    ipureintro
    dsimp only at hf7 hf8 hf9 hf10 hf11 hf12 hf13 hf14 hf15; subst hf2 hf3 hf4 hf5 hf7 hf8 hf9 hf10 hf11 hf12 hf13 hf14 hf15
    sl_unfold_run_names
    rw [read_slice1 _ _ (jof i) (k0_off2_eq i)]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H10]
  · iexists _; isplitr
    swap; · iexact H10
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H11]
  · iexists _; isplitr
    swap; · iexact H11
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H12]
  · iexists _; isplitr
    swap; · iexact H12
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  isplitl [H13]
  · iexists _; isplitr
    swap; · iexact H13
    ipureintro
    exact hf13
  isplitl [H14]
  · iexists _; isplitr
    swap; · iexact H14
    ipureintro
    exact hf14
  iexists _; isplitr
  swap; · iexact H15
  ipureintro
  exact hf15

set_option maxHeartbeats 4000000 in
/-- A middle block of the second phase. -/
theorem body_mid1 (h1 : ¬ k0_cond1 i = 1#1) (h4 : k0_cond4 i = 1#1) (ha : ¬ cj i 0#32 = 1#1) (hb : ¬ k0_cond6 i = 1#1)
    (x : Vec F S10000x512 .f32) (w : Vec F S512x33 .f32) (b : Vec F S33x1 .f32) (y : Vec F S1x1x10000 .i32) (s : St F) (K : PUnit → sProp 𝕄) :
    iprop(ins (F := F) c arg2 arg3 arg4 arg5 x w b y ∗ scr (F := F) c arg7 arg8 arg9 arg10 arg11 arg12 arg13 arg14 arg15 s ∗ (iprop(ins (F := F) c arg2 arg3 arg4 arg5 x w b y ∗ scr (F := F) c arg7 arg8 arg9 arg10 arg11 arg12 arg13 arg14 arg15 (ph1 (jof i) y s)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  obtain ⟨s0, s1, s2, s3, s4, s5, s6, s7, s8⟩ := s
  sl_unfold [cc0__body]
  unfold ins scr owns
  iintro ⟨⟨⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | exact h1 | exact h4 | exact ha | exact hb)
  sl_step
  iapply Hk
  isplitl [H2 H3 H4 H5]
  · isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    iexists _; isplitr
    swap; · iexact H5
    ipureintro
    exact hf5
  isplitl [H7]
  · iexists _; isplitr
    swap; · iexact H7
    ipureintro
    exact hf7
  isplitl [H8]
  · iexists _; isplitr
    swap; · iexact H8
    ipureintro
    exact hf8
  isplitl [H9]
  · iexists _; isplitr
    swap; · iexact H9
    ipureintro
    exact hf9
  isplitl [H10]
  · iexists _; isplitr
    swap; · iexact H10
    ipureintro
    exact hf10
  isplitl [H11]
  · iexists _; isplitr
    swap; · iexact H11
    ipureintro
    exact hf11
  isplitl [H12]
  · iexists _; isplitr
    swap; · iexact H12
    ipureintro
    exact hf12
  isplitl [H13]
  · iexists _; isplitr
    swap; · iexact H13
    ipureintro
    exact hf13
  isplitl [H14]
  · iexists _; isplitr
    swap; · iexact H14
    ipureintro
    exact hf14
  iexists _; isplitr
  swap; · iexact H15
  ipureintro
  dsimp only at hf7 hf8 hf9 hf10 hf11 hf12 hf13 hf14 hf15; subst hf2 hf3 hf4 hf5 hf7 hf8 hf9 hf10 hf11 hf12 hf13 hf14 hf15
  sl_unfold_run_names
  rw [read_whole _ _ z2]
  try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
  rw [readAt_slice32 arg7.view f7 (jof i) (k0_off3_eq i), readAt_slice1 arg8.view f8 (jof i) (k0_off4_eq i), readAt_slice1 arg9.view f9 (jof i) (k0_off4_eq i)]
  try simp -proj only [View.readCov_unit_zero arg10.view z2, View.readCov_unit_zero arg11.view z2, View.readCov_unit_zero arg12.view z2, View.readCov_unit_zero arg13.view z2, View.readCov_unit_zero arg14.view z2, View.readCov_unit_zero arg15.view z2]
  all_goals (try dsimp only [ph0, ph1, ph0i, ph0f, ph1i, outOf, carStep, accStep, car0, first0, firstX]; first | done | with_reducible rfl | rw [jof_val])

set_option maxHeartbeats 4000000 in
/-- The first block of the second phase. -/
theorem body_first1 (h1 : ¬ k0_cond1 i = 1#1) (h4 : k0_cond4 i = 1#1) (ha : cj i 0#32 = 1#1) (hb : ¬ k0_cond6 i = 1#1)
    (x : Vec F S10000x512 .f32) (w : Vec F S512x33 .f32) (b : Vec F S33x1 .f32) (y : Vec F S1x1x10000 .i32) (s : St F) (K : PUnit → sProp 𝕄) :
    iprop(ins (F := F) c arg2 arg3 arg4 arg5 x w b y ∗ scr (F := F) c arg7 arg8 arg9 arg10 arg11 arg12 arg13 arg14 arg15 s ∗ (iprop(ins (F := F) c arg2 arg3 arg4 arg5 x w b y ∗ scr (F := F) c arg7 arg8 arg9 arg10 arg11 arg12 arg13 arg14 arg15 (ph1 (jof i) y (ph1i s))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  obtain ⟨s0, s1, s2, s3, s4, s5, s6, s7, s8⟩ := s
  sl_unfold [cc0__body]
  unfold ins scr owns
  iintro ⟨⟨⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  sl_exec (disch := first | exact h1 | exact h4 | exact ha | exact hb)
  sl_step
  iapply Hk
  isplitl [H2 H3 H4 H5]
  · isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    iexists _; isplitr
    swap; · iexact H5
    ipureintro
    exact hf5
  isplitl [H7]
  · iexists _; isplitr
    swap; · iexact H7
    ipureintro
    exact hf7
  isplitl [H8]
  · iexists _; isplitr
    swap; · iexact H8
    ipureintro
    exact hf8
  isplitl [H9]
  · iexists _; isplitr
    swap; · iexact H9
    ipureintro
    exact hf9
  isplitl [H10]
  · iexists _; isplitr
    swap; · iexact H10
    ipureintro
    exact hf10
  isplitl [H11]
  · iexists _; isplitr
    swap; · iexact H11
    ipureintro
    exact hf11
  isplitl [H12]
  · iexists _; isplitr
    swap; · iexact H12
    ipureintro
    exact hf12
  isplitl [H13]
  · iexists _; isplitr
    swap; · iexact H13
    ipureintro
    exact hf13
  isplitl [H14]
  · iexists _; isplitr
    swap; · iexact H14
    ipureintro
    exact hf14
  iexists _; isplitr
  swap; · iexact H15
  ipureintro
  dsimp only at hf7 hf8 hf9 hf10 hf11 hf12 hf13 hf14 hf15; subst hf2 hf3 hf4 hf5 hf7 hf8 hf9 hf10 hf11 hf12 hf13 hf14 hf15
  sl_unfold_run_names
  rw [read_whole _ _ z2]
  try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
  rw [readAt_slice32 arg7.view f7 (jof i) (k0_off3_eq i), readAt_slice1 arg8.view f8 (jof i) (k0_off4_eq i), readAt_slice1 arg9.view f9 (jof i) (k0_off4_eq i)]
  try simp -proj only [View.readCov_unit_zero arg10.view z2, View.readCov_unit_zero arg11.view z2, View.readCov_unit_zero arg12.view z2, View.readCov_unit_zero arg13.view z2, View.readCov_unit_zero arg14.view z2, View.readCov_unit_zero arg15.view z2]
  all_goals (try dsimp only [ph0, ph1, ph0i, ph0f, ph1i, outOf, carStep, accStep, car0, first0, firstX]; first | done | with_reducible rfl | rw [jof_val])

set_option maxHeartbeats 4000000 in
/-- The last block of the second phase. -/
theorem body_last1 (h1 : ¬ k0_cond1 i = 1#1) (h4 : k0_cond4 i = 1#1) (ha : ¬ cj i 0#32 = 1#1) (hb : k0_cond6 i = 1#1)
    (x : Vec F S10000x512 .f32) (w : Vec F S512x33 .f32) (b : Vec F S33x1 .f32) (y : Vec F S1x1x10000 .i32) (s : St F) (K : PUnit → sProp 𝕄) :
    iprop(ins (F := F) c arg2 arg3 arg4 arg5 x w b y ∗ scr (F := F) c arg7 arg8 arg9 arg10 arg11 arg12 arg13 arg14 arg15 s ∗ (∃ d, owns (c : Thread nD τ) arg6 fullShare d) ∗ (iprop(ins (F := F) c arg2 arg3 arg4 arg5 x w b y ∗ scr (F := F) c arg7 arg8 arg9 arg10 arg11 arg12 arg13 arg14 arg15 (ph1 (jof i) y s) ∗ owns (c : Thread nD τ) arg6 fullShare (outOf (ph1 (jof i) y s))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15) K := by
  obtain ⟨s0, s1, s2, s3, s4, s5, s6, s7, s8⟩ := s
  sl_unfold [cc0__body]
  unfold ins scr owns
  iintro ⟨⟨⟨%f2, %hf2, H2⟩, ⟨%f3, %hf3, H3⟩, ⟨%f4, %hf4, H4⟩, ⟨%f5, %hf5, H5⟩⟩, ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%d6, %f6, -, H6⟩, Hk⟩
  sl_exec (disch := first | exact h1 | exact h4 | exact ha | exact hb)
  sl_step
  iapply Hk
  isplitl [H2 H3 H4 H5]
  · isplitl [H2]
    · iexists _; isplitr
      swap; · iexact H2
      ipureintro
      exact hf2
    isplitl [H3]
    · iexists _; isplitr
      swap; · iexact H3
      ipureintro
      exact hf3
    isplitl [H4]
    · iexists _; isplitr
      swap; · iexact H4
      ipureintro
      exact hf4
    iexists _; isplitr
    swap; · iexact H5
    ipureintro
    exact hf5
  isplitl [H7 H8 H9 H10 H11 H12 H13 H14 H15]
  · isplitl [H7]
    · iexists _; isplitr
      swap; · iexact H7
      ipureintro
      exact hf7
    isplitl [H8]
    · iexists _; isplitr
      swap; · iexact H8
      ipureintro
      exact hf8
    isplitl [H9]
    · iexists _; isplitr
      swap; · iexact H9
      ipureintro
      exact hf9
    isplitl [H10]
    · iexists _; isplitr
      swap; · iexact H10
      ipureintro
      exact hf10
    isplitl [H11]
    · iexists _; isplitr
      swap; · iexact H11
      ipureintro
      exact hf11
    isplitl [H12]
    · iexists _; isplitr
      swap; · iexact H12
      ipureintro
      exact hf12
    isplitl [H13]
    · iexists _; isplitr
      swap; · iexact H13
      ipureintro
      exact hf13
    isplitl [H14]
    · iexists _; isplitr
      swap; · iexact H14
      ipureintro
      exact hf14
    iexists _; isplitr
    swap; · iexact H15
    ipureintro
    dsimp only at hf7 hf8 hf9 hf10 hf11 hf12 hf13 hf14 hf15; subst hf2 hf3 hf4 hf5 hf7 hf8 hf9 hf10 hf11 hf12 hf13 hf14 hf15
    sl_unfold_run_names
    rw [read_whole _ _ z2]
    try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
    rw [readAt_slice32 arg7.view f7 (jof i) (k0_off3_eq i), readAt_slice1 arg8.view f8 (jof i) (k0_off4_eq i), readAt_slice1 arg9.view f9 (jof i) (k0_off4_eq i)]
    try simp -proj only [View.readCov_unit_zero arg10.view z2, View.readCov_unit_zero arg11.view z2, View.readCov_unit_zero arg12.view z2, View.readCov_unit_zero arg13.view z2, View.readCov_unit_zero arg14.view z2, View.readCov_unit_zero arg15.view z2]
    all_goals (try dsimp only [ph0, ph1, ph0i, ph0f, ph1i, outOf, carStep, accStep, car0, first0, firstX]; first | done | with_reducible rfl | rw [jof_val])
  iexists _; isplitr
  swap; · iexact H6
  ipureintro
  dsimp only at hf7 hf8 hf9 hf10 hf11 hf12 hf13 hf14 hf15; subst hf2 hf3 hf4 hf5 hf7 hf8 hf9 hf10 hf11 hf12 hf13 hf14 hf15
  sl_unfold_run_names
  rw [read_whole _ _ z2]
  try simp -proj only [readAt_whole arg2.view _ z2, readAt_whole arg3.view _ z2, readAt_whole arg4.view _ z2, readAt_whole arg10.view _ z2, readAt_whole arg11.view _ z2, readAt_whole arg12.view _ z2, readAt_whole arg13.view _ z2, readAt_whole arg14.view _ z2, readAt_whole arg15.view _ z2, readAt_whole arg5.view _ z3]
  rw [readAt_slice32 arg7.view f7 (jof i) (k0_off3_eq i), readAt_slice1 arg8.view f8 (jof i) (k0_off4_eq i), readAt_slice1 arg9.view f9 (jof i) (k0_off4_eq i)]
  try simp -proj only [View.readCov_unit_zero arg10.view z2, View.readCov_unit_zero arg11.view z2, View.readCov_unit_zero arg12.view z2, View.readCov_unit_zero arg13.view z2, View.readCov_unit_zero arg14.view z2, View.readCov_unit_zero arg15.view z2]
  all_goals (try dsimp only [ph0, ph1, ph0i, ph0f, ph1i, outOf, carStep, accStep, car0, first0, firstX]; first | done | with_reducible rfl | rw [jof_val])

end Body

end Cert.Proof.KernelIdeal

end
-- ==== Proof.Launch.lean ====
/-
  The launch: the scratch record's invariant over the ten grid points, the body obligation, the run, the frame, and what the
  result array ends as.
-/
module

public import proofs.«01_k».proof.Proof.Gen.KernelIdeal.Frame
public import proofs.«01_k».proof.Proof.Gen.KernelIdeal.Points
public import proofs.«01_k».proof.Proof.Body
public import Idealize.ShloMosaic.Lib.Claim
public import Idealize.ShloMosaic.Lib.Pipeline.FrameBody
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F]

local notation "𝕄" => MT nD τ sig Unit (Elt F) ℕ (UR sig nD τ) ℕ

/-! ## Slices of the stacks -/

theorem at32_slice (j : Fin 5) (k : S1x32x10000.Idx) : at32 (ix3 j (k 1 : Fin 32) (k 2 : Fin 10000)) = k := by
  funext a
  match a with
  | ⟨0, _⟩ => exact (Subsingleton.elim (α := Fin 1) _ _)
  | ⟨1, _⟩ => rfl
  | ⟨2, _⟩ => rfl
theorem at1_slice (j : Fin 5) (k : S1x1x10000.Idx) : at1 (ix3 j (k 1 : Fin 1) (k 2 : Fin 10000)) = k := by
  funext a
  match a with
  | ⟨0, _⟩ => exact (Subsingleton.elim (α := Fin 1) _ _)
  | ⟨1, _⟩ => rfl
  | ⟨2, _⟩ => rfl
/-- The slice just stored. -/
theorem sl32_same (j : Fin 5) (s : Vec F S5x32x10000 .bf16) (p : Vec F S1x32x10000 .bf16) : sl32 j (upd32 j s p) = p := by
  funext k
  exact (if_pos rfl).trans (congrArg p (at32_slice j k))
theorem sl1_same (j : Fin 5) (s : Vec F S5x1x10000 .f32) (p : Vec F S1x1x10000 .f32) : sl1 j (upd1 j s p) = p := by
  funext k
  exact (if_pos rfl).trans (congrArg p (at1_slice j k))
/-- The other slices stay. -/
theorem sl32_other (j i : Fin 5) (h : j.val ≠ i.val) (s : Vec F S5x32x10000 .bf16) (p : Vec F S1x32x10000 .bf16) : sl32 j (upd32 i s p) = sl32 j s := by
  funext k
  exact if_neg h
theorem sl1_other (j i : Fin 5) (h : j.val ≠ i.val) (s : Vec F S5x1x10000 .f32) (p : Vec F S1x1x10000 .f32) : sl1 j (upd1 i s p) = sl1 j s := by
  funext k
  exact if_neg h

/-! ## What the launch computes, over the block sequence -/

/-- The grid point of block `j` in the first phase, -/
def pA (j : Fin 5) : Fin cfg0.N := ⟨j.val, lt_of_lt_of_le j.isLt (by decide : 5 ≤ grid0.N)⟩
/-- and in the second. -/
def pB (j : Fin 5) : Fin cfg0.N := ⟨5 + j.val, lt_of_lt_of_le (Nat.add_lt_add_left j.isLt 5) (by decide : 10 ≤ grid0.N)⟩

section Values
variable (m : (b : Idealize.ShloMosaic.Loc nD τ sig) → Buf (Elt F) b) (c : Dev nD)

/-- The rows a grid point reads, -/
def xB (t : Fin cfg0.N) : Vec F S10000x512 .f32 := iblk m c 0 t
/-- the weights, -/
def wB (t : Fin cfg0.N) : Vec F S512x33 .f32 := iblk m c 1 t
/-- the bias, -/
def bB (t : Fin cfg0.N) : Vec F S33x1 .f32 := iblk m c 2 t
/-- and the instance ids. -/
def yB (t : Fin cfg0.N) : Vec F S1x1x10000 .i32 := iblk m c 3 t

/-- Block `j`'s embeddings, -/
def oxB (j : Fin 5) : Vec F S1x32x10000 .bf16 := k0_pay20 (xB m c (pA j)) (wB m c (pA j)) (bB m c (pA j))
/-- their squared norms, -/
def x2B (j : Fin 5) : Vec F S1x1x10000 .f32 := k0_pay21 (xB m c (pA j)) (wB m c (pA j)) (bB m c (pA j))
/-- and the charges. -/
def qB (j : Fin 5) : Vec F S1x1x10000 .f32 := k0_pay23 (k0_pay22 (xB m c (pA j)) (wB m c (pA j)) (bB m c (pA j)))

/-- The running choice over the first `n` blocks. -/
def carN : ℕ → Car F
  | 0 => car0
  | n + 1 => if h : n < 5 then carStep ⟨n, h⟩ (xB m c (pA ⟨n, h⟩)) (wB m c (pA ⟨n, h⟩)) (bB m c (pA ⟨n, h⟩)) (yB m c (pA ⟨n, h⟩)) (carN n) else carN n

/-- The first point's score and embedding. -/
def of0V : Vec F S128x1 .f32 := first0 (xB m c (pA 0)) (wB m c (pA 0)) (bB m c (pA 0))
def ox0V : Vec F S1x32 .f32 := firstX (xB m c (pA 0)) (wB m c (pA 0)) (bB m c (pA 0))
/-- The chosen scores and embeddings. -/
def balV : Vec F S128x1 .f32 := k0_pay12 (carN m c 5).2.2 (of0V m c)
def xalV : Vec F S128x32 .f32 := k0_pay13 (carN m c 5).2.2 (ox0V m c) (carN m c 5).1

/-- The potential over the first `n` blocks. -/
def accN : ℕ → Vec F S128x1 .f32
  | 0 => k0_pay34
  | n + 1 => if h : n < 5 then accStep (oxB m c ⟨n, h⟩) (x2B m c ⟨n, h⟩) (qB m c ⟨n, h⟩) (yB m c (pB ⟨n, h⟩)) (xalV m c) (balV m c) (accN n) else accN n

/-- What the launch leaves in its output. -/
def outV : Vec F S1x1 .f32 := k0_pay15 (accN m c 5) (balV m c)

/-! ## The invariant -/

/-- What the scratch record holds before grid point `n`: the blocks stored so far; during the first phase the running choice;
    from the second phase on the chosen points; and the potential so far. -/
structure Inv (n : ℕ) (s : St F) : Prop where
  ox : ∀ j : Fin 5, j.val < n → sl32 j s.ox = oxB m c j
  x2 : ∀ j : Fin 5, j.val < n → sl1 j s.x2 = x2B m c j
  q : ∀ j : Fin 5, j.val < n → sl1 j s.q = qB m c j
  car : 1 ≤ n → n < 5 → (s.xal, s.sidx, s.bal) = carN m c n ∧ s.of0 = of0V m c ∧ s.ox0 = ox0V m c
  al : 5 ≤ n → s.xal = xalV m c ∧ s.bal = balV m c
  acc : 6 ≤ n → s.acc = accN m c (n - 5)

theorem carN_succ (j : Fin 5) : carN m c (j.val + 1) = carStep j (xB m c (pA j)) (wB m c (pA j)) (bB m c (pA j)) (yB m c (pA j)) (carN m c j.val) :=
  dif_pos j.isLt
theorem accN_succ (j : Fin 5) : accN m c (j.val + 1) = accStep (oxB m c j) (x2B m c j) (qB m c j) (yB m c (pB j)) (xalV m c) (balV m c) (accN m c j.val) :=
  dif_pos j.isLt

variable {m c}

/-- The stacks after a point of the first phase. -/
theorem inv_stack (j : Fin 5) {s s' : St F} (h : Inv m c j.val s) (e1 : s'.ox = s.ox) (e2 : s'.x2 = s.x2) (e3 : s'.q = s.q) :
    (∀ i : Fin 5, i.val < j.val + 1 → sl32 i (upd32 j s'.ox (oxB m c j)) = oxB m c i)
    ∧ (∀ i : Fin 5, i.val < j.val + 1 → sl1 i (upd1 j s'.x2 (x2B m c j)) = x2B m c i)
    ∧ (∀ i : Fin 5, i.val < j.val + 1 → sl1 i (upd1 j s'.q (qB m c j)) = qB m c i) := by
  rw [e1, e2, e3]
  refine ⟨fun i hi => ?_, fun i hi => ?_, fun i hi => ?_⟩ <;> by_cases hij : i = j
  · subst hij; exact sl32_same _ _ _
  · have hv : i.val ≠ j.val := fun e => hij (Fin.ext e)
    exact (sl32_other i j hv _ _).trans (h.ox i (by omega))
  · subst hij; exact sl1_same _ _ _
  · have hv : i.val ≠ j.val := fun e => hij (Fin.ext e)
    exact (sl1_other i j hv _ _).trans (h.x2 i (by omega))
  · subst hij; exact sl1_same _ _ _
  · have hv : i.val ≠ j.val := fun e => hij (Fin.ext e)
    exact (sl1_other i j hv _ _).trans (h.q i (by omega))

/-- The first block keeps the invariant. -/
theorem inv_first0 {s : St F} (h : Inv m c 0 s) :
    Inv m c 1 (ph0 0 (xB m c (pA 0)) (wB m c (pA 0)) (bB m c (pA 0)) (yB m c (pA 0)) (ph0i (xB m c (pA 0)) (wB m c (pA 0)) (bB m c (pA 0)) s)) := by
  obtain ⟨a, b, d⟩ := inv_stack (m := m) (c := c) (0 : Fin 5) h (s' := ph0i (xB m c (pA 0)) (wB m c (pA 0)) (bB m c (pA 0)) s) rfl rfl rfl
  refine ⟨a, b, d, fun _ _ => ⟨(carN_succ m c (0 : Fin 5)).symm, rfl, rfl⟩, fun h5 => absurd h5 (by omega), fun h6 => absurd h6 (by omega)⟩

/-- A middle block keeps it. -/
theorem inv_mid0 (j : Fin 5) (hj : 1 ≤ j.val) (hj4 : j.val < 4) {s : St F} (h : Inv m c j.val s) :
    Inv m c (j.val + 1) (ph0 j (xB m c (pA j)) (wB m c (pA j)) (bB m c (pA j)) (yB m c (pA j)) s) := by
  obtain ⟨a, b, d⟩ := inv_stack j h (s' := s) rfl rfl rfl
  obtain ⟨e, e0, e1⟩ := h.car hj (by omega)
  refine ⟨a, b, d, fun _ _ => ⟨?_, e0, e1⟩, fun h5 => absurd h5 (by omega), fun h6 => absurd h6 (by omega)⟩
  rw [carN_succ m c j, ← e]; rfl

/-- The last block of the first phase keeps it. -/
theorem inv_last0 (j : Fin 5) (hj : j.val = 4) {s : St F} (h : Inv m c j.val s) :
    Inv m c (j.val + 1) (ph0f (ph0 j (xB m c (pA j)) (wB m c (pA j)) (bB m c (pA j)) (yB m c (pA j)) s)) := by
  obtain ⟨a, b, d⟩ := inv_stack j h (s' := s) rfl rfl rfl
  obtain ⟨e, e0, e1⟩ := h.car (by omega) (by omega)
  have e5 : carN m c 5 = carStep j (xB m c (pA j)) (wB m c (pA j)) (bB m c (pA j)) (yB m c (pA j)) (s.xal, s.sidx, s.bal) := by
    rw [e, ← carN_succ m c j, hj]
  refine ⟨a, b, d, fun _ h5 => absurd h5 (by omega), fun _ => ⟨?_, ?_⟩, fun h6 => absurd h6 (by omega)⟩
  · unfold xalV; rw [e5, ← e1]; rfl
  · unfold balV; rw [e5, ← e0]; rfl

/-- A block of the second phase keeps it, given the potential it starts from. -/
theorem inv_ph1 (j : Fin 5) {s : St F} (s' : St F) (h : Inv m c (5 + j.val) s) (e1 : s'.ox = s.ox) (e2 : s'.x2 = s.x2) (e3 : s'.q = s.q)
    (e4 : s'.xal = s.xal) (e5 : s'.bal = s.bal) (ea : s'.acc = accN m c j.val) :
    Inv m c (5 + j.val + 1) (ph1 j (yB m c (pB j)) s') := by
  obtain ⟨ex, eb⟩ := h.al (by omega)
  have key : accStep (sl32 j s'.ox) (sl1 j s'.x2) (sl1 j s'.q) (yB m c (pB j)) s'.xal s'.bal s'.acc = accN m c (5 + j.val + 1 - 5) := by
    rw [show 5 + j.val + 1 - 5 = j.val + 1 by omega, accN_succ m c j, e1, e2, e3, e4, e5, ea, ex, eb, h.ox j (by omega), h.x2 j (by omega), h.q j (by omega)]
  refine ⟨fun i _ => ?_, fun i _ => ?_, fun i _ => ?_, fun _ h5 => absurd h5 (by omega), fun _ => ⟨?_, ?_⟩, fun _ => key⟩
  · exact (congrArg (sl32 i) e1).trans (h.ox i (by omega))
  · exact (congrArg (sl1 i) e2).trans (h.x2 i (by omega))
  · exact (congrArg (sl1 i) e3).trans (h.q i (by omega))
  · exact e4.trans ex
  · exact e5.trans eb

variable (m c)

/-- The scratch buffers before grid point `n`. -/
def phi (n : ℕ) : sProp 𝕄 :=
  iprop(∃ s : St F, ⌜Inv m c n s⌝ ∗ scr (F := F) c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) s ∗ ∃ r, prngReg c r)

/-- The proof data: each input window at its block, the output at the launch's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outV m c
  Φ t := phi m c t.val
  q _ := fullShare
  owed _ := 0

/-- The arrays are what the region finds. -/
theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outV m c := by dsimp only [dats]
/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The kinds of point -/

theorem c1_pos : ∀ t : Fin grid0.N, t.val < 5 → k0_cond1 (grid0.coords t) = 1#1 := by decide +kernel
theorem c1_neg : ∀ t : Fin grid0.N, 5 ≤ t.val → ¬ k0_cond1 (grid0.coords t) = 1#1 := by decide +kernel
theorem c4_pos : ∀ t : Fin grid0.N, 5 ≤ t.val → k0_cond4 (grid0.coords t) = 1#1 := by decide +kernel
theorem c4_neg : ∀ t : Fin grid0.N, t.val < 5 → ¬ k0_cond4 (grid0.coords t) = 1#1 := by decide +kernel
theorem ca_pos : ∀ t : Fin grid0.N, t.val % 5 = 0 → cj (grid0.coords t) 0#32 = 1#1 := by decide +kernel
theorem ca_neg : ∀ t : Fin grid0.N, t.val % 5 ≠ 0 → ¬ cj (grid0.coords t) 0#32 = 1#1 := by decide +kernel
theorem cb_pos : ∀ t : Fin grid0.N, t.val % 5 = 4 → cj (grid0.coords t) 4#32 = 1#1 := by decide +kernel
theorem cb_neg : ∀ t : Fin grid0.N, t.val % 5 ≠ 4 → ¬ cj (grid0.coords t) 4#32 = 1#1 := by decide +kernel
theorem c6_pos : ∀ t : Fin grid0.N, t.val % 5 = 4 → k0_cond6 (grid0.coords t) = 1#1 := by decide +kernel
theorem c6_neg : ∀ t : Fin grid0.N, t.val % 5 ≠ 4 → ¬ k0_cond6 (grid0.coords t) = 1#1 := by decide +kernel
theorem jof_eq : ∀ t : Fin grid0.N, (jof (grid0.coords t)).val = t.val % 5 := by decide +kernel
theorem idle_pos : ∀ t : Fin grid0.N, t.val ≠ 9 → idle0 4 (grid0.coords t) = true := by decide +kernel
theorem idle_neg : ∀ t : Fin grid0.N, t.val = 9 → idle0 4 (grid0.coords t) = false := by decide +kernel
theorem lt_ten : ∀ t : Fin grid0.N, t.val < 10 := by decide +kernel

theorem jofA (j : Fin 5) : jof (grid0.coords (pA j)) = j := Fin.ext ((jof_eq _).trans (Nat.mod_eq_of_lt j.isLt))
theorem jofB (j : Fin 5) : jof (grid0.coords (pB j)) = j := Fin.ext ((jof_eq _).trans (by show (5 + j.val) % 5 = j.val; omega))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- what it returns at a point that leaves the output alone, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((dats m 0 c).before 4 t d)))

/-- and at the last. -/
def bodyPostLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The first point. -/
theorem sound_first0 (c : Dev nD)  :
    bodyPre m c (pA 0) ⊢ wp frame (wpE (defs₀ (F := F)) Variants.none c none) Set.univ (bodyAt0 (pA 0)) (fun _ => bodyPost m c (pA 0)) := by
  unfold bodyPre bodyPost bodyAt0
  simp only [before0_0, before0_1, before0_2, before0_3]
  rw [show (dats m 0 c).owesAt () (pA 0).succ = (dats m 0 c).owesAt () (pA 0).castSucc from rfl, after0_0, after0_1, after0_2, after0_3]
  rw [show (dats m 0 c).Φ (pA 0).castSucc = phi m c (pA 0).castSucc.val from rfl, show (dats m 0 c).Φ (pA 0).succ = phi m c (pA 0).succ.val from rfl]
  unfold phi
  iintro ⟨⟨%s, %hs, Hs, Hr⟩, Ho, ⟨%d0, H0⟩, ⟨%d1, H1⟩, ⟨%d2, H2⟩, ⟨%d3, H3⟩, H4⟩
  iapply (body_first0 c Set.univ _ _ _ _ _ _ _ _ _ _ _ _ _ _ _ _ _ _ _ _ _ _ _ _ _ _ _ _ _ (c1_pos _ (by decide)) (c4_neg _ (by decide)) (ca_pos _ (by decide)) (cb_neg _ (by decide))
    (xB m c (pA 0)) (wB m c (pA 0)) (bB m c (pA 0)) (yB m c (pA 0)) s _)
  isplitl [H0 H1 H2 H3]
  · unfold ins
    isplitl [H0]; · iexact H0
    isplitl [H1]; · iexact H1
    isplitl [H2]; · iexact H2
    iexact H3
  isplitl [Hs]; · iexact Hs
  unfold ins
  iintro ⟨⟨H0, H1, H2, H3⟩, Hs⟩
  isplitl [Hs Hr]
  · iexists _
    isplitr; swap
    · isplitl [Hs]; · iexact Hs
      iexact Hr
    ipureintro
    rw [jofA]; exact inv_first0 hs
  isplitl [Ho]; · iexact Ho
  isplitl [H0]; · iexact H0
  isplitl [H1]; · iexact H1
  isplitl [H2]; · iexact H2
  isplitl [H3]; · iexact H3
  iexact H4

/-- A middle block of the first phase. -/
theorem sound_mid0 (c : Dev nD) (j : Fin 5) (hj : 1 ≤ j.val) (hj4 : j.val < 4) :
    bodyPre m c (pA j) ⊢ wp frame (wpE (defs₀ (F := F)) Variants.none c none) Set.univ (bodyAt0 (pA j)) (fun _ => bodyPost m c (pA j)) := by
  unfold bodyPre bodyPost bodyAt0
  simp only [before0_0, before0_1, before0_2, before0_3]
  rw [show (dats m 0 c).owesAt () (pA j).succ = (dats m 0 c).owesAt () (pA j).castSucc from rfl, after0_0, after0_1, after0_2, after0_3]
  rw [show (dats m 0 c).Φ (pA j).castSucc = phi m c (pA j).castSucc.val from rfl, show (dats m 0 c).Φ (pA j).succ = phi m c (pA j).succ.val from rfl]
  unfold phi
  iintro ⟨⟨%s, %hs, Hs, Hr⟩, Ho, ⟨%d0, H0⟩, ⟨%d1, H1⟩, ⟨%d2, H2⟩, ⟨%d3, H3⟩, H4⟩
  iapply (body_mid0 c Set.univ _ _ _ _ _ _ _ _ _ _ _ _ _ _ _ _ _ _ _ _ _ _ _ _ _ _ _ _ _ (c1_pos _ j.isLt) (c4_neg _ j.isLt) (ca_neg _ (by show j.val % 5 ≠ 0; omega)) (cb_neg _ (by show j.val % 5 ≠ 4; omega))
    (xB m c (pA j)) (wB m c (pA j)) (bB m c (pA j)) (yB m c (pA j)) s _)
  isplitl [H0 H1 H2 H3]
  · unfold ins
    isplitl [H0]; · iexact H0
    isplitl [H1]; · iexact H1
    isplitl [H2]; · iexact H2
    iexact H3
  isplitl [Hs]; · iexact Hs
  unfold ins
  iintro ⟨⟨H0, H1, H2, H3⟩, Hs⟩
  isplitl [Hs Hr]
  · iexists _
    isplitr; swap
    · isplitl [Hs]; · iexact Hs
      iexact Hr
    ipureintro
    rw [jofA]; exact inv_mid0 j hj hj4 hs
  isplitl [Ho]; · iexact Ho
  isplitl [H0]; · iexact H0
  isplitl [H1]; · iexact H1
  isplitl [H2]; · iexact H2
  isplitl [H3]; · iexact H3
  iexact H4

/-- The last block of the first phase. -/
theorem sound_last0 (c : Dev nD) (j : Fin 5) (hj : j.val = 4) :
    bodyPre m c (pA j) ⊢ wp frame (wpE (defs₀ (F := F)) Variants.none c none) Set.univ (bodyAt0 (pA j)) (fun _ => bodyPost m c (pA j)) := by
  unfold bodyPre bodyPost bodyAt0
  simp only [before0_0, before0_1, before0_2, before0_3]
  rw [show (dats m 0 c).owesAt () (pA j).succ = (dats m 0 c).owesAt () (pA j).castSucc from rfl, after0_0, after0_1, after0_2, after0_3]
  rw [show (dats m 0 c).Φ (pA j).castSucc = phi m c (pA j).castSucc.val from rfl, show (dats m 0 c).Φ (pA j).succ = phi m c (pA j).succ.val from rfl]
  unfold phi
  iintro ⟨⟨%s, %hs, Hs, Hr⟩, Ho, ⟨%d0, H0⟩, ⟨%d1, H1⟩, ⟨%d2, H2⟩, ⟨%d3, H3⟩, H4⟩
  iapply (body_last0 c Set.univ _ _ _ _ _ _ _ _ _ _ _ _ _ _ _ _ _ _ _ _ _ _ _ _ _ _ _ _ _ (c1_pos _ j.isLt) (c4_neg _ j.isLt) (ca_neg _ (by show j.val % 5 ≠ 0; omega)) (cb_pos _ (by show j.val % 5 = 4; omega))
    (xB m c (pA j)) (wB m c (pA j)) (bB m c (pA j)) (yB m c (pA j)) s _)
  isplitl [H0 H1 H2 H3]
  · unfold ins
    isplitl [H0]; · iexact H0
    isplitl [H1]; · iexact H1
    isplitl [H2]; · iexact H2
    iexact H3
  isplitl [Hs]; · iexact Hs
  unfold ins
  iintro ⟨⟨H0, H1, H2, H3⟩, Hs⟩
  isplitl [Hs Hr]
  · iexists _
    isplitr; swap
    · isplitl [Hs]; · iexact Hs
      iexact Hr
    ipureintro
    rw [jofA]; exact inv_last0 j hj hs
  isplitl [Ho]; · iexact Ho
  isplitl [H0]; · iexact H0
  isplitl [H1]; · iexact H1
  isplitl [H2]; · iexact H2
  isplitl [H3]; · iexact H3
  iexact H4

/-- The first block of the second phase. -/
theorem sound_first1 (c : Dev nD) (j : Fin 5) (hj : j.val = 0) :
    bodyPre m c (pB j) ⊢ wp frame (wpE (defs₀ (F := F)) Variants.none c none) Set.univ (bodyAt0 (pB j)) (fun _ => bodyPost m c (pB j)) := by
  unfold bodyPre bodyPost bodyAt0
  simp only [before0_0, before0_1, before0_2, before0_3]
  rw [show (dats m 0 c).owesAt () (pB j).succ = (dats m 0 c).owesAt () (pB j).castSucc from rfl, after0_0, after0_1, after0_2, after0_3]
  rw [show (dats m 0 c).Φ (pB j).castSucc = phi m c (pB j).castSucc.val from rfl, show (dats m 0 c).Φ (pB j).succ = phi m c (pB j).succ.val from rfl]
  unfold phi
  iintro ⟨⟨%s, %hs, Hs, Hr⟩, Ho, ⟨%d0, H0⟩, ⟨%d1, H1⟩, ⟨%d2, H2⟩, ⟨%d3, H3⟩, H4⟩
  iapply (body_first1 c Set.univ _ _ _ _ _ _ _ _ _ _ _ _ _ _ _ _ _ _ _ _ _ _ _ _ _ _ _ _ _ (c1_neg _ (Nat.le_add_right 5 j.val)) (c4_pos _ (Nat.le_add_right 5 j.val)) (ca_pos _ (by show (5 + j.val) % 5 = 0; omega)) (c6_neg _ (by show (5 + j.val) % 5 ≠ 4; omega))
    (xB m c (pB j)) (wB m c (pB j)) (bB m c (pB j)) (yB m c (pB j)) s _)
  isplitl [H0 H1 H2 H3]
  · unfold ins
    isplitl [H0]; · iexact H0
    isplitl [H1]; · iexact H1
    isplitl [H2]; · iexact H2
    iexact H3
  isplitl [Hs]; · iexact Hs
  unfold ins
  iintro ⟨⟨H0, H1, H2, H3⟩, Hs⟩
  isplitl [Hs Hr]
  · iexists _
    isplitr; swap
    · isplitl [Hs]; · iexact Hs
      iexact Hr
    ipureintro
    rw [jofB]; exact inv_ph1 j _ hs rfl rfl rfl rfl rfl (by rw [hj]; rfl)
  isplitl [Ho]; · iexact Ho
  isplitl [H0]; · iexact H0
  isplitl [H1]; · iexact H1
  isplitl [H2]; · iexact H2
  isplitl [H3]; · iexact H3
  iexact H4

/-- A middle block of the second phase. -/
theorem sound_mid1 (c : Dev nD) (j : Fin 5) (hj : 1 ≤ j.val) (hj4 : j.val < 4) :
    bodyPre m c (pB j) ⊢ wp frame (wpE (defs₀ (F := F)) Variants.none c none) Set.univ (bodyAt0 (pB j)) (fun _ => bodyPost m c (pB j)) := by
  unfold bodyPre bodyPost bodyAt0
  simp only [before0_0, before0_1, before0_2, before0_3]
  rw [show (dats m 0 c).owesAt () (pB j).succ = (dats m 0 c).owesAt () (pB j).castSucc from rfl, after0_0, after0_1, after0_2, after0_3]
  rw [show (dats m 0 c).Φ (pB j).castSucc = phi m c (pB j).castSucc.val from rfl, show (dats m 0 c).Φ (pB j).succ = phi m c (pB j).succ.val from rfl]
  unfold phi
  iintro ⟨⟨%s, %hs, Hs, Hr⟩, Ho, ⟨%d0, H0⟩, ⟨%d1, H1⟩, ⟨%d2, H2⟩, ⟨%d3, H3⟩, H4⟩
  iapply (body_mid1 c Set.univ _ _ _ _ _ _ _ _ _ _ _ _ _ _ _ _ _ _ _ _ _ _ _ _ _ _ _ _ _ (c1_neg _ (Nat.le_add_right 5 j.val)) (c4_pos _ (Nat.le_add_right 5 j.val)) (ca_neg _ (by show (5 + j.val) % 5 ≠ 0; omega)) (c6_neg _ (by show (5 + j.val) % 5 ≠ 4; omega))
    (xB m c (pB j)) (wB m c (pB j)) (bB m c (pB j)) (yB m c (pB j)) s _)
  isplitl [H0 H1 H2 H3]
  · unfold ins
    isplitl [H0]; · iexact H0
    isplitl [H1]; · iexact H1
    isplitl [H2]; · iexact H2
    iexact H3
  isplitl [Hs]; · iexact Hs
  unfold ins
  iintro ⟨⟨H0, H1, H2, H3⟩, Hs⟩
  isplitl [Hs Hr]
  · iexists _
    isplitr; swap
    · isplitl [Hs]; · iexact Hs
      iexact Hr
    ipureintro
    rw [jofB]; exact inv_ph1 j _ hs rfl rfl rfl rfl rfl (by have h6 := hs.acc (by show 6 ≤ 5 + j.val; omega); exact h6.trans (congrArg (accN m c) (by show 5 + j.val - 5 = j.val; omega)))
  isplitl [Ho]; · iexact Ho
  isplitl [H0]; · iexact H0
  isplitl [H1]; · iexact H1
  isplitl [H2]; · iexact H2
  isplitl [H3]; · iexact H3
  iexact H4

/-- The last point. -/
theorem sound_last1 (c : Dev nD) (j : Fin 5) (hj : j.val = 4) :
    bodyPre m c (pB j) ⊢ wp frame (wpE (defs₀ (F := F)) Variants.none c none) Set.univ (bodyAt0 (pB j)) (fun _ => bodyPostLast m c (pB j)) := by
  unfold bodyPre bodyPostLast bodyAt0
  simp only [before0_0, before0_1, before0_2, before0_3]
  rw [show (dats m 0 c).owesAt () (pB j).succ = (dats m 0 c).owesAt () (pB j).castSucc from rfl, after0_0, after0_1, after0_2, after0_3, after0_4]
  rw [show (dats m 0 c).Φ (pB j).castSucc = phi m c (pB j).castSucc.val from rfl, show (dats m 0 c).Φ (pB j).succ = phi m c (pB j).succ.val from rfl]
  unfold phi
  iintro ⟨⟨%s, %hs, Hs, Hr⟩, Ho, ⟨%d0, H0⟩, ⟨%d1, H1⟩, ⟨%d2, H2⟩, ⟨%d3, H3⟩, H4⟩
  have hinv : Inv m c (5 + j.val + 1) (ph1 (jof (grid0.coords (pB j))) (yB m c (pB j)) s) := by
    rw [jofB]; exact inv_ph1 j _ hs rfl rfl rfl rfl rfl (by have h6 := hs.acc (by show 6 ≤ 5 + j.val; omega); exact h6.trans (congrArg (accN m c) (by show 5 + j.val - 5 = j.val; omega)))
  have hout : outOf (ph1 (jof (grid0.coords (pB j))) (yB m c (pB j)) s) = outV m c := by
    have ha := hinv.acc (by omega)
    have hb := (hinv.al (by omega)).2
    rw [show 5 + j.val + 1 - 5 = 5 by omega] at ha
    unfold outOf outV
    rw [ha, hb]
  iapply (body_last1 c Set.univ _ _ _ _ _ _ _ _ _ _ _ _ _ _ _ _ _ _ _ _ _ _ _ _ _ _ _ _ _ (c1_neg _ (Nat.le_add_right 5 j.val)) (c4_pos _ (Nat.le_add_right 5 j.val)) (ca_neg _ (by show (5 + j.val) % 5 ≠ 0; omega)) (c6_pos _ (by show (5 + j.val) % 5 = 4; omega))
    (xB m c (pB j)) (wB m c (pB j)) (bB m c (pB j)) (yB m c (pB j)) s _)
  isplitl [H0 H1 H2 H3]
  · unfold ins
    isplitl [H0]; · iexact H0
    isplitl [H1]; · iexact H1
    isplitl [H2]; · iexact H2
    iexact H3
  isplitl [Hs]; · iexact Hs
  isplitl [H4]
  · icases H4 with ⟨%d4, H4⟩
    iexists _; iexact H4
  unfold ins
  iintro ⟨⟨H0, H1, H2, H3⟩, Hs, H4⟩
  isplitl [Hs Hr]
  · iexists _
    isplitr; swap
    · isplitl [Hs]; · iexact Hs
      iexact Hr
    ipureintro
    exact hinv
  isplitl [Ho]; · iexact Ho
  isplitl [H0]; · iexact H0
  isplitl [H1]; · iexact H1
  isplitl [H2]; · iexact H2
  isplitl [H3]; · iexact H3
  rw [← hout]
  iexact H4

/-- The body at any point but the last, -/
theorem sound_body (c : Dev nD) (t : Fin cfg0.N) (ht : t.val ≠ 9) :
    bodyPre m c t ⊢ wp frame (wpE (defs₀ (F := F)) Variants.none c none) Set.univ (bodyAt0 t) (fun _ => bodyPost m c t) := by
  have h10 : t.val < 10 := lt_ten t
  by_cases h5 : t.val < 5
  · obtain ⟨j, rfl⟩ : ∃ j : Fin 5, t = pA j := ⟨⟨t.val, h5⟩, rfl⟩
    have hv : (pA j).val = j.val := rfl
    by_cases h0 : j = 0
    · subst h0; exact sound_first0 m c
    have h0' : j.val ≠ 0 := fun e => h0 (Fin.ext e)
    by_cases h4 : j.val = 4
    · exact sound_last0 m c j h4
    exact sound_mid0 m c j (by omega) (by omega)
  · obtain ⟨j, rfl⟩ : ∃ j : Fin 5, t = pB j := ⟨⟨t.val - 5, by omega⟩, Fin.ext (by show t.val = 5 + (t.val - 5); omega)⟩
    have hv : (pB j).val = 5 + j.val := rfl
    by_cases h0 : j.val = 0
    · exact sound_first1 m c j h0
    exact sound_mid1 m c j (by omega) (by omega)
/-- and at the last. -/
theorem sound_body_last (c : Dev nD) (t : Fin cfg0.N) (ht : t.val = 9) :
    bodyPre m c t ⊢ wp frame (wpE (defs₀ (F := F)) Variants.none c none) Set.univ (bodyAt0 t) (fun _ => bodyPostLast m c t) := by
  obtain rfl : t = pB 4 := Fin.ext ht
  exact sound_last1 m c 4 rfl

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  by_cases ht : t.val = 9
  · have hi : cfg0.idle 4 (cfg0.grid.coords t) = false := idle_neg t ht
    rw [hi]
    exact triple_restated (sound_body_last m c t ht) rfl .rfl fun _ => .rfl
  · have hi : cfg0.idle 4 (cfg0.grid.coords t) = true := idle_pos t ht
    have hf : (cfg0.win 4).flush t = false := by
      have h10 : t.val < 10 := lt_ten t
      rw [← Bool.not_eq_true, flush0_4]; omega
    rw [hi, hf]
    exact triple_restated (sound_body m c t ht) rfl .rfl fun _ => .rfl

/-- The scratch buffers as the region hands them over. -/
theorem phi_in (c : Dev nD) : Pipeline.ΦA spec0 c ⊢ phi m c 0 := by
  unfold Pipeline.ΦA phi scr
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hr⟩
  iexists (⟨f0, f1, f2, f3, f4, f5, f6, f7, f8⟩ : St F)
  isplitr
  · ipureintro
    exact ⟨fun j h => absurd h (Nat.not_lt_zero _), fun j h => absurd h (Nat.not_lt_zero _), fun j h => absurd h (Nat.not_lt_zero _),
      fun h => absurd h (by omega), fun h => absurd h (by omega), fun h => absurd h (by omega)⟩
  isplitr [Hr]; swap; · iexact Hr
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And as it takes them back. -/
theorem phi_out (n : ℕ) (c : Dev nD) : phi m c n ⊢ Pipeline.ΦA spec0 c := by
  unfold Pipeline.ΦA phi scr
  rw [scopedRest0_eq]
  simp only [owns_whole]
  iintro ⟨%s, -, ⟨H0, H1, H2, H3, H4, H5, H6, H7, H8⟩, Hr⟩
  isplitr [Hr]; swap; · iexact Hr
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iexists _; iexact H8

variable (ρ : Dev nD → PrngReg)

set_option backward.isDefEq.respectTransparency.types false in
/-- The launch: every array of the pipeline at what the proof data says, every other buffer as the host code leaves it, and
    every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain m _) (hA := A_eq m)
    (hin := fun c => phi_in m c) (hout := fun c => phi_out m _ c)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Values

end Cert.Proof.KernelIdeal

end
-- ==== Proof.RefRun.lean ====
/-
  The reference's run: its result, in named stages, and its frame.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- A number at every hit. -/
abbrev atHits (w : BitVec 32) : Vec F S50000 .f32 := broadcastInDim S50000 ![] bcast_S_S50000 (constant S_ .f32 w)
/-- A number at every hit and instance. -/
abbrev atPairs (w : BitVec 32) : Vec F S50000x128 .f32 := broadcastInDim S50000x128 ![] bcast_S_S50000x128 (constant S_ .f32 w)
/-- A row of hits, at every instance. -/
abbrev hitsOut {e : EltTy} (v : Vec F S50000 e) : Vec F S50000x128 e :=
  broadcastInDim S50000x128 ![0, 1] bcast_S50000x1_S50000x128_0_1 (broadcastInDim S50000x1 ![0] bcast_S50000_S50000x1_0 v)
/-- A row of instances, at every hit. -/
abbrev instOut {e : EltTy} (v : Vec F S128 e) : Vec F S50000x128 e :=
  broadcastInDim S50000x128 ![0, 1] bcast_S1x128_S50000x128_0_1 (broadcastInDim S1x128 ![1] bcast_S128_S1x128_1 v)

/-- The condensation score of every hit. -/
def rOf (x : Vec F S50000x512 .f32) (bw : Vec F S512x1 .f32) (bb : Vec F S1 .f32) : Vec F S50000 .f32 :=
  Host.divf (atHits 0x3F800000#32) (addf (atHits 0x3F800000#32) (Host.exp (Host.negf (shapeCast S50000
    (addf (Host.dotGeneral dot_S50000x512_S512x1_S50000x1_1_0_0_1_n_n none x bw)
      (broadcastInDim S50000x1 ![0, 1] bcast_S1x1_S50000x1_0_1 (broadcastInDim S1x1 ![1] bcast_S1_S1x1_1 bb))) shapeCasts_S50000x1_S50000))))
/-- The embedding of every hit. -/
def rOx (x : Vec F S50000x512 .f32) (cw : Vec F S512x32 .f32) (cb : Vec F S32 .f32) : Vec F S50000x32 .f32 :=
  addf (Host.dotGeneral dot_S50000x512_S512x32_S50000x32_1_0_0_1_n_n none x cw)
    (broadcastInDim S50000x32 ![0, 1] bcast_S1x32_S50000x32_0_1 (broadcastInDim S1x32 ![1] bcast_S32_S1x32_1 cb))
/-- Which hit belongs to which instance. -/
def rMask (y : Vec F S50000 .i32) : Vec F S50000x128 .f32 :=
  uitofp .f32 (cmpi .eq (hitsOut (F := F) (e := .i32) y) (broadcastInDim S50000x128 ![0, 1] bcast_S1x128_S50000x128_0_1 (iotaInDim S1x128 32 1)))
/-- The scores the choice compares: an instance's hits' scores, and minus infinity elsewhere. -/
def rCol (of : Vec F S50000 .f32) (y : Vec F S50000 .i32) : Vec F S50000x128 .f32 :=
  select (cmpf .ogt (rMask (F := F) y) (atPairs (F := F) 0x00000000#32)) (hitsOut (F := F) (e := .f32) of)
    (broadcastInDim S50000x128 ![] bcast_S_S50000x128 (id (constant S_ .f32 0xFF800000#32)))
/-- The chosen hit of every instance. -/
def rBest (of : Vec F S50000 .f32) (y : Vec F S50000 .i32) : Vec F S128 .i32 :=
  fun j => (Host.argReduce reducer_argmax_f32_i32 (rCol of y) (iotaInDim S50000x128 32 0) (constant S_ .f32 0xFF800000#32) (constantI S_ 32 0#32)
    reducesTo_S50000x128_S128_d0 h_S_ j).2
/-- The chosen hits as row numbers. -/
def rRow (k : Vec F S128 .i32) : Vec F S128x1 .i32 :=
  broadcastInDim S128x1 ![0] bcast_S128_S128x1_0 (select (cmpi .slt k (broadcastInDim S128 ![] bcast_S_S128 (constantI S_ 32 0#32)))
    (addi k (broadcastInDim S128 ![] bcast_S_S128 (constantI S_ 32 50000#32))) k)
/-- The charge of every hit. -/
def rQ (of : Vec F S50000 .f32) : Vec F S50000 .f32 :=
  addf (mulf (Host.atanh (minimumf (broadcastInDim S50000 ![] bcast_S_S50000 (id (constant S_ .f32 0x3F7FF972#32)))
        (maximumf (broadcastInDim S50000 ![] bcast_S_S50000 (id (constant S_ .f32 0x00000000#32))) of)))
      (Host.atanh (minimumf (broadcastInDim S50000 ![] bcast_S_S50000 (id (constant S_ .f32 0x3F7FF972#32)))
        (maximumf (broadcastInDim S50000 ![] bcast_S_S50000 (id (constant S_ .f32 0x00000000#32))) of))))
    (atHits 0x3F000000#32)
/-- The chosen embeddings. -/
def rXa (ox : Vec F S50000x32 .f32) (r : Vec F S128x1 .i32) : Vec F S128x32 .f32 := Host.gather gather_S50000x32_S128x1_S128x32_1_0_n_n_0_1_132 ox r
/-- A row of hits at the chosen ones. -/
def rPick (v : Vec F S50000 .f32) (r : Vec F S128x1 .i32) : Vec F S128 .f32 := Host.gather gather_S50000_S128x1_S128_n_0_n_n_0_1_1 v r
/-- The squared distance of every hit from every chosen embedding. -/
def rD2 (ox : Vec F S50000x32 .f32) (xa : Vec F S128x32 .f32) : Vec F S50000x128 .f32 :=
  maximumf (subf
      (addf (hitsOut (F := F) (e := .f32) (Host.reduceAdd (mulf ox ox) (constant S_ .f32 0x00000000#32) reducesTo_S50000x32_S50000_d1 h_S_))
        (instOut (F := F) (e := .f32) (Host.reduceAdd (mulf xa xa) (constant S_ .f32 0x00000000#32) reducesTo_S128x32_S128_d1 h_S_)))
      (mulf (atPairs 0x40000000#32) (Host.dotGeneral dot_S50000x32_S32x128_S50000x128_1_0_0_1_n_n none ox
        (transpose S32x128 [1, 0] xa transposes_S128x32_S32x128_1_0))))
    (atPairs 0x00000000#32)
/-- The product of the charges of every hit and every chosen one. -/
def rQQ (q : Vec F S50000 .f32) (qa : Vec F S128 .f32) : Vec F S50000x128 .f32 := mulf (hitsOut (F := F) (e := .f32) q) (instOut (F := F) (e := .f32) qa)
/-- The attraction: -/
def rAtt (y : Vec F S50000 .i32) (d2 qq : Vec F S50000x128 .f32) : Vec F S_ .f32 :=
  Host.reduceAdd (mulf (mulf (rMask (F := F) y) d2) qq) (constant S_ .f32 0x00000000#32) reducesTo_S50000x128_S_d0_1 h_S_
/-- and the repulsion. -/
def rRep (y : Vec F S50000 .i32) (d2 qq : Vec F S50000x128 .f32) : Vec F S_ .f32 :=
  Host.reduceAdd (mulf (mulf (subf (atPairs 0x3F800000#32) (rMask (F := F) y))
      (maximumf (subf (atPairs 0x3F800000#32) (Host.sqrt d2)) (atPairs 0x00000000#32))) qq)
    (constant S_ .f32 0x00000000#32) reducesTo_S50000x128_S_d0_1 h_S_
/-- Which hits are noise, -/
def rIsNoise (y : Vec F S50000 .i32) : Vec F S50000 .i1 := cmpi .slt y (broadcastInDim S50000 ![] bcast_S_S50000 (constantI S_ 32 0#32))
/-- how many, -/
def rNumNoise (y : Vec F S50000 .i32) : Vec F S_ .i32 :=
  Host.reduce IntOp.addi (extui 32 (rIsNoise (F := F) y) natLt_1_32) (constantI S_ 32 0#32) reducesTo_S50000_S_d0 h_S_
/-- and their mean score. -/
def rNoise (of : Vec F S50000 .f32) (y : Vec F S50000 .i32) : Vec F S_ .f32 :=
  select (cmpi .sgt (rNumNoise (F := F) y) (constantI S_ 32 0#32))
    (Host.divf (Host.reduceAdd (select (rIsNoise (F := F) y) of (broadcastInDim S50000 ![] bcast_S_S50000 (id (constant S_ .f32 0x00000000#32))))
        (constant S_ .f32 0x00000000#32) reducesTo_S50000_S_d0 h_S_)
      (sitofp .f32 (maxsi (rNumNoise (F := F) y) (constantI S_ 32 1#32))))
    (id (constant S_ .f32 0x00000000#32))
/-- One minus the chosen scores' mean. -/
def rBeta (ba : Vec F S128 .f32) : Vec F S_ .f32 :=
  Host.divf (Host.reduceAdd (subf (broadcastInDim S128 ![] bcast_S_S128 (constant S_ .f32 0x3F800000#32)) ba) (constant S_ .f32 0x00000000#32)
    reducesTo_S128_S_d0 h_S_) (constant S_ .f32 0x43000000#32)
/-- The condensation loss, from the scores and the embeddings. -/
def rLoss (of : Vec F S50000 .f32) (ox : Vec F S50000x32 .f32) (y : Vec F S50000 .i32) : Vec F S_ .f32 :=
  addf (Host.divf (addf
        (rAtt y (rD2 ox (rXa ox (rRow (F := F) (rBest of y)))) (rQQ (rQ of) (rPick (rQ of) (rRow (F := F) (rBest of y)))))
        (rRep y (rD2 ox (rXa ox (rRow (F := F) (rBest of y)))) (rQQ (rQ of) (rPick (rQ of) (rRow (F := F) (rBest of y))))))
      (constant S_ .f32 0x47435000#32))
    (addf (rBeta (rPick of (rRow (F := F) (rBest of y)))) (mulf (constant S_ .f32 0x3F800000#32) (rNoise of y)))
/-- The reference's result. -/
def rRes (x : Vec F S50000x512 .f32) (y : Vec F S50000 .i32) (bw : Vec F S512x1 .f32) (bb : Vec F S1 .f32) (cw : Vec F S512x32 .f32)
    (cb : Vec F S32 .f32) (t : Vec F S_ .f32) : Vec F S_ .f32 :=
  addf (mulf (Host.exp (Host.negf t)) (rLoss (rOf x bw bb) (rOx x cw cb) y)) t

/-! ## The run -/

/-- The reference's operations, in order. -/
abbrev ops : List (HloOp τ sig (Elt F)) :=
  [ binary main_arg0 main_arg2 main_v0 ((fun l r => Host.dotGeneral dot_S50000x512_S512x1_S50000x1_1_0_0_1_n_n none l r) : (⟨S50000x512, .f32⟩ : BufTy).Contents (Elt F) → (⟨S512x1, .f32⟩ : BufTy).Contents (Elt F) → (⟨S50000x1, .f32⟩ : BufTy).Contents (Elt F)),
    unary main_arg3 main_v1 (broadcastInDim S1x1 ![1] bcast_S1_S1x1_1 : (⟨S1, .f32⟩ : BufTy).Contents (Elt F) → (⟨S1x1, .f32⟩ : BufTy).Contents (Elt F)),
    unary main_v1 main_v2 (broadcastInDim S50000x1 ![0, 1] bcast_S1x1_S50000x1_0_1 : (⟨S1x1, .f32⟩ : BufTy).Contents (Elt F) → (⟨S50000x1, .f32⟩ : BufTy).Contents (Elt F)),
    binary main_v0 main_v2 main_v3 (addf : (⟨S50000x1, .f32⟩ : BufTy).Contents (Elt F) → (⟨S50000x1, .f32⟩ : BufTy).Contents (Elt F) → (⟨S50000x1, .f32⟩ : BufTy).Contents (Elt F)),
    reshape main_v3 main_v4 (rfl : (.f32 : EltTy) = .f32) shapeCasts_S50000x1_S50000,
    unary main_v4 main_v5 (Host.negf : (⟨S50000, .f32⟩ : BufTy).Contents (Elt F) → (⟨S50000, .f32⟩ : BufTy).Contents (Elt F)),
    unary main_v5 main_v6 (Host.exp : (⟨S50000, .f32⟩ : BufTy).Contents (Elt F) → (⟨S50000, .f32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_v7 main_v6 main_v8 (addf : (⟨S50000, .f32⟩ : BufTy).Contents (Elt F) → (⟨S50000, .f32⟩ : BufTy).Contents (Elt F) → (⟨S50000, .f32⟩ : BufTy).Contents (Elt F)),
    nullary main_cst_0 (constant S_ .f32 0x3F800000#32),
    unary main_cst_0 main_v9 (broadcastInDim S50000 ![] bcast_S_S50000 : (⟨S_, .f32⟩ : BufTy).Contents (Elt F) → (⟨S50000, .f32⟩ : BufTy).Contents (Elt F)),
    binary main_v9 main_v8 main_v10 (Host.divf : (⟨S50000, .f32⟩ : BufTy).Contents (Elt F) → (⟨S50000, .f32⟩ : BufTy).Contents (Elt F) → (⟨S50000, .f32⟩ : BufTy).Contents (Elt F)),
    binary main_arg0 main_arg4 main_v11 ((fun l r => Host.dotGeneral dot_S50000x512_S512x32_S50000x32_1_0_0_1_n_n none l r) : (⟨S50000x512, .f32⟩ : BufTy).Contents (Elt F) → (⟨S512x32, .f32⟩ : BufTy).Contents (Elt F) → (⟨S50000x32, .f32⟩ : BufTy).Contents (Elt F)),
    unary main_arg5 main_v12 (broadcastInDim S1x32 ![1] bcast_S32_S1x32_1 : (⟨S32, .f32⟩ : BufTy).Contents (Elt F) → (⟨S1x32, .f32⟩ : BufTy).Contents (Elt F)),
    unary main_v12 main_v13 (broadcastInDim S50000x32 ![0, 1] bcast_S1x32_S50000x32_0_1 : (⟨S1x32, .f32⟩ : BufTy).Contents (Elt F) → (⟨S50000x32, .f32⟩ : BufTy).Contents (Elt F)),
    binary main_v11 main_v13 main_v14 (addf : (⟨S50000x32, .f32⟩ : BufTy).Contents (Elt F) → (⟨S50000x32, .f32⟩ : BufTy).Contents (Elt F) → (⟨S50000x32, .f32⟩ : BufTy).Contents (Elt F)),
    unary main_arg6 main_v15 (Host.negf : (⟨S_, .f32⟩ : BufTy).Contents (Elt F) → (⟨S_, .f32⟩ : BufTy).Contents (Elt F)),
    unary main_v15 main_v16 (Host.exp : (⟨S_, .f32⟩ : BufTy).Contents (Elt F) → (⟨S_, .f32⟩ : BufTy).Contents (Elt F)),
    TRef.unary (TRef.of (T := ⟨S50000, .i32⟩) main_arg1) (TRef.of (T := ⟨S50000x1, .i32⟩) main_call0_v0) (broadcastInDim S50000x1 ![0] bcast_S50000_S50000x1_0),
    TRef.nullary (TRef.of (T := ⟨S1x128, .i32⟩) main_call0_v1) (iotaInDim S1x128 32 1),
    TRef.unary (TRef.of (T := ⟨S50000x1, .i32⟩) main_call0_v0) (TRef.of (T := ⟨S50000x128, .i32⟩) main_call0_v2) (broadcastInDim S50000x128 ![0, 1] bcast_S50000x1_S50000x128_0_1),
    TRef.unary (TRef.of (T := ⟨S1x128, .i32⟩) main_call0_v1) (TRef.of (T := ⟨S50000x128, .i32⟩) main_call0_v3) (broadcastInDim S50000x128 ![0, 1] bcast_S1x128_S50000x128_0_1),
    TRef.binary (TRef.of (T := ⟨S50000x128, .i32⟩) main_call0_v2) (TRef.of (T := ⟨S50000x128, .i32⟩) main_call0_v3) (TRef.of (T := ⟨S50000x128, .i1⟩) main_call0_v4) (cmpi .eq),
    TRef.unary (TRef.of (T := ⟨S50000x128, .i1⟩) main_call0_v4) (TRef.of (T := ⟨S50000x128, .f32⟩) main_v17) (uitofp .f32),
    nullary main_cst_1 (constant S_ .f32 0x00000000#32),
    unary main_cst_1 main_v18 (broadcastInDim S50000x128 ![] bcast_S_S50000x128 : (⟨S_, .f32⟩ : BufTy).Contents (Elt F) → (⟨S50000x128, .f32⟩ : BufTy).Contents (Elt F)),
    binary main_v17 main_v18 main_v19 (cmpf .ogt : (⟨S50000x128, .f32⟩ : BufTy).Contents (Elt F) → (⟨S50000x128, .f32⟩ : BufTy).Contents (Elt F) → (⟨S50000x128, .i1⟩ : BufTy).Contents (Elt F)),
    unary main_v10 main_v20 (broadcastInDim S50000x1 ![0] bcast_S50000_S50000x1_0 : (⟨S50000, .f32⟩ : BufTy).Contents (Elt F) → (⟨S50000x1, .f32⟩ : BufTy).Contents (Elt F)),
    nullary main_cst_2 (constant S_ .f32 0xFF800000#32),
    TRef.unary (TRef.of (T := ⟨S_, .f32⟩) main_cst_2) (TRef.of (T := ⟨S_, .f32⟩) main_call1_v0) id,
    TRef.unary (TRef.of (T := ⟨S50000x1, .f32⟩) main_v20) (TRef.of (T := ⟨S50000x128, .f32⟩) main_call1_v1) (broadcastInDim S50000x128 ![0, 1] bcast_S50000x1_S50000x128_0_1),
    TRef.unary (TRef.of (T := ⟨S_, .f32⟩) main_call1_v0) (TRef.of (T := ⟨S50000x128, .f32⟩) main_call1_v2) (broadcastInDim S50000x128 ![] bcast_S_S50000x128),
    TRef.ternary (TRef.of (T := ⟨S50000x128, .i1⟩) main_v19) (TRef.of (T := ⟨S50000x128, .f32⟩) main_call1_v1) (TRef.of (T := ⟨S50000x128, .f32⟩) main_call1_v2) (TRef.of (T := ⟨S50000x128, .f32⟩) main_v21) select,
    TRef.nullary (TRef.of (T := ⟨S50000x128, .i32⟩) main_call2_v0) (iotaInDim S50000x128 32 0),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S50000x128, .f32⟩) main_v21) (TRef.of (T := ⟨S50000x128, .i32⟩) main_call2_v0) (TRef.of (T := ⟨S_, .f32⟩) main_call2_cst) (TRef.of (T := ⟨S_, .i32⟩) main_call2_c) (TRef.of (T := ⟨S128, .f32⟩) main_call2_v1_0) (fun x y u v j => (Host.argReduce reducer_argmax_f32_i32 x y u v reducesTo_S50000x128_S128_d0 h_S_ j).1),
    TRef.quaternary (TRef.of (T := ⟨S50000x128, .f32⟩) main_v21) (TRef.of (T := ⟨S50000x128, .i32⟩) main_call2_v0) (TRef.of (T := ⟨S_, .f32⟩) main_call2_cst) (TRef.of (T := ⟨S_, .i32⟩) main_call2_c) (TRef.of (T := ⟨S128, .i32⟩) main_v22) (fun x y u v j => (Host.argReduce reducer_argmax_f32_i32 x y u v reducesTo_S50000x128_S128_d0 h_S_ j).2),
    nullary main_c (constantI S_ 32 0#32),
    unary main_c main_v23 (broadcastInDim S128 ![] bcast_S_S128 : (⟨S_, .i32⟩ : BufTy).Contents (Elt F) → (⟨S128, .i32⟩ : BufTy).Contents (Elt F)),
    binary main_v22 main_v23 main_v24 (cmpi .slt : (⟨S128, .i32⟩ : BufTy).Contents (Elt F) → (⟨S128, .i32⟩ : BufTy).Contents (Elt F) → (⟨S128, .i1⟩ : BufTy).Contents (Elt F)),
    nullary main_c_3 (constantI S_ 32 50000#32),
    unary main_c_3 main_v25 (broadcastInDim S128 ![] bcast_S_S128 : (⟨S_, .i32⟩ : BufTy).Contents (Elt F) → (⟨S128, .i32⟩ : BufTy).Contents (Elt F)),
    binary main_v22 main_v25 main_v26 (addi : (⟨S128, .i32⟩ : BufTy).Contents (Elt F) → (⟨S128, .i32⟩ : BufTy).Contents (Elt F) → (⟨S128, .i32⟩ : BufTy).Contents (Elt F)),
    ternary main_v24 main_v26 main_v22 main_v27 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v27 main_v28 (broadcastInDim S128x1 ![0] bcast_S128_S128x1_0 : (⟨S128, .i32⟩ : BufTy).Contents (Elt F) → (⟨S128x1, .i32⟩ : BufTy).Contents (Elt F)),
    binary main_v14 main_v28 main_v29 ((fun x i => Host.gather gather_S50000x32_S128x1_S128x32_1_0_n_n_0_1_132 x i) : (⟨S50000x32, .f32⟩ : BufTy).Contents (Elt F) → (⟨S128x1, .i32⟩ : BufTy).Contents (Elt F) → (⟨S128x32, .f32⟩ : BufTy).Contents (Elt F)),
    nullary main_cst_4 (constant S_ .f32 0x00000000#32),
    nullary main_cst_5 (constant S_ .f32 0x3F7FF972#32),
    TRef.unary (TRef.of (T := ⟨S_, .f32⟩) main_cst_4) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_v10) (TRef.of (T := ⟨S50000, .f32⟩) main_call3_v2) maximumf,
    TRef.unary (TRef.of (T := ⟨S_, .f32⟩) main_cst_5) (TRef.of (T := ⟨S_, .f32⟩) main_call3_v3) id,
    TRef.unary (TRef.of (T := ⟨S_, .f32⟩) main_call3_v3) (TRef.of (T := ⟨S50000, .f32⟩) main_call3_v4) (broadcastInDim S50000 ![] bcast_S_S50000),
    TRef.binary (TRef.of (T := ⟨S50000, .f32⟩) main_call3_v4) (TRef.of (T := ⟨S50000, .f32⟩) main_call3_v2) (TRef.of (T := ⟨S50000, .f32⟩) main_v30) minimumf,
    unary main_v30 main_v31 (Host.atanh : (⟨S50000, .f32⟩ : BufTy).Contents (Elt F) → (⟨S50000, .f32⟩ : BufTy).Contents (Elt F)),
    binary main_v31 main_v31 main_v32 (mulf : (⟨S50000, .f32⟩ : BufTy).Contents (Elt F) → (⟨S50000, .f32⟩ : BufTy).Contents (Elt F) → (⟨S50000, .f32⟩ : BufTy).Contents (Elt F)),
    nullary main_cst_6 (constant S_ .f32 0x3F000000#32),
    unary main_cst_6 main_v33 (broadcastInDim S50000 ![] bcast_S_S50000 : (⟨S_, .f32⟩ : BufTy).Contents (Elt F) → (⟨S50000, .f32⟩ : BufTy).Contents (Elt F)),
    binary main_v32 main_v33 main_v34 (addf : (⟨S50000, .f32⟩ : BufTy).Contents (Elt F) → (⟨S50000, .f32⟩ : BufTy).Contents (Elt F) → (⟨S50000, .f32⟩ : BufTy).Contents (Elt F)),
    nullary main_c_7 (constantI S_ 32 0#32),
    unary main_c_7 main_v35 (broadcastInDim S128 ![] bcast_S_S128 : (⟨S_, .i32⟩ : BufTy).Contents (Elt F) → (⟨S128, .i32⟩ : BufTy).Contents (Elt F)),
    binary main_v22 main_v35 main_v36 (cmpi .slt : (⟨S128, .i32⟩ : BufTy).Contents (Elt F) → (⟨S128, .i32⟩ : BufTy).Contents (Elt F) → (⟨S128, .i1⟩ : BufTy).Contents (Elt F)),
    nullary main_c_8 (constantI S_ 32 50000#32),
    unary main_c_8 main_v37 (broadcastInDim S128 ![] bcast_S_S128 : (⟨S_, .i32⟩ : BufTy).Contents (Elt F) → (⟨S128, .i32⟩ : BufTy).Contents (Elt F)),
    binary main_v22 main_v37 main_v38 (addi : (⟨S128, .i32⟩ : BufTy).Contents (Elt F) → (⟨S128, .i32⟩ : BufTy).Contents (Elt F) → (⟨S128, .i32⟩ : BufTy).Contents (Elt F)),
    ternary main_v36 main_v38 main_v22 main_v39 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v39 main_v40 (broadcastInDim S128x1 ![0] bcast_S128_S128x1_0 : (⟨S128, .i32⟩ : BufTy).Contents (Elt F) → (⟨S128x1, .i32⟩ : BufTy).Contents (Elt F)),
    binary main_v34 main_v40 main_v41 ((fun x i => Host.gather gather_S50000_S128x1_S128_n_0_n_n_0_1_1 x i) : (⟨S50000, .f32⟩ : BufTy).Contents (Elt F) → (⟨S128x1, .i32⟩ : BufTy).Contents (Elt F) → (⟨S128, .f32⟩ : BufTy).Contents (Elt F)),
    nullary main_c_9 (constantI S_ 32 0#32),
    unary main_c_9 main_v42 (broadcastInDim S128 ![] bcast_S_S128 : (⟨S_, .i32⟩ : BufTy).Contents (Elt F) → (⟨S128, .i32⟩ : BufTy).Contents (Elt F)),
    binary main_v22 main_v42 main_v43 (cmpi .slt : (⟨S128, .i32⟩ : BufTy).Contents (Elt F) → (⟨S128, .i32⟩ : BufTy).Contents (Elt F) → (⟨S128, .i1⟩ : BufTy).Contents (Elt F)),
    nullary main_c_10 (constantI S_ 32 50000#32),
    unary main_c_10 main_v44 (broadcastInDim S128 ![] bcast_S_S128 : (⟨S_, .i32⟩ : BufTy).Contents (Elt F) → (⟨S128, .i32⟩ : BufTy).Contents (Elt F)),
    binary main_v22 main_v44 main_v45 (addi : (⟨S128, .i32⟩ : BufTy).Contents (Elt F) → (⟨S128, .i32⟩ : BufTy).Contents (Elt F) → (⟨S128, .i32⟩ : BufTy).Contents (Elt F)),
    ternary main_v43 main_v45 main_v22 main_v46 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v46 main_v47 (broadcastInDim S128x1 ![0] bcast_S128_S128x1_0 : (⟨S128, .i32⟩ : BufTy).Contents (Elt F) → (⟨S128x1, .i32⟩ : BufTy).Contents (Elt F)),
    binary main_v10 main_v47 main_v48 ((fun x i => Host.gather gather_S50000_S128x1_S128_n_0_n_n_0_1_1 x i) : (⟨S50000, .f32⟩ : BufTy).Contents (Elt F) → (⟨S128x1, .i32⟩ : BufTy).Contents (Elt F) → (⟨S128, .f32⟩ : BufTy).Contents (Elt F)),
    binary main_v14 main_v14 main_v49 (mulf : (⟨S50000x32, .f32⟩ : BufTy).Contents (Elt F) → (⟨S50000x32, .f32⟩ : BufTy).Contents (Elt F) → (⟨S50000x32, .f32⟩ : BufTy).Contents (Elt F)),
    nullary main_cst_11 (constant S_ .f32 0x00000000#32),
    binary main_v49 main_cst_11 main_v50 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    binary main_v29 main_v29 main_v52 (mulf : (⟨S128x32, .f32⟩ : BufTy).Contents (Elt F) → (⟨S128x32, .f32⟩ : BufTy).Contents (Elt F) → (⟨S128x32, .f32⟩ : BufTy).Contents (Elt F)),
    nullary main_cst_12 (constant S_ .f32 0x00000000#32),
    binary main_v52 main_cst_12 main_v53 ((fun x v => Host.reduceAdd x v reducesTo_S128x32_S128_d1 h_S_) : (⟨S128x32, .f32⟩ : BufTy).Contents (Elt F) → (⟨S_, .f32⟩ : BufTy).Contents (Elt F) → (⟨S128, .f32⟩ : BufTy).Contents (Elt F)),
    unary main_v53 main_v54 (broadcastInDim S1x128 ![1] bcast_S128_S1x128_1 : (⟨S128, .f32⟩ : BufTy).Contents (Elt F) → (⟨S1x128, .f32⟩ : BufTy).Contents (Elt F)),
    unary main_v51 main_v55 (broadcastInDim S50000x128 ![0, 1] bcast_S50000x1_S50000x128_0_1 : (⟨S50000x1, .f32⟩ : BufTy).Contents (Elt F) → (⟨S50000x128, .f32⟩ : BufTy).Contents (Elt F)),
    unary main_v54 main_v56 (broadcastInDim S50000x128 ![0, 1] bcast_S1x128_S50000x128_0_1 : (⟨S1x128, .f32⟩ : BufTy).Contents (Elt F) → (⟨S50000x128, .f32⟩ : BufTy).Contents (Elt F)),
    binary main_v55 main_v56 main_v57 (addf : (⟨S50000x128, .f32⟩ : BufTy).Contents (Elt F) → (⟨S50000x128, .f32⟩ : BufTy).Contents (Elt F) → (⟨S50000x128, .f32⟩ : BufTy).Contents (Elt F)),
    unary main_v29 main_v58 ((transpose S32x128 [1, 0] · transposes_S128x32_S32x128_1_0) : (⟨S128x32, .f32⟩ : BufTy).Contents (Elt F) → (⟨S32x128, .f32⟩ : BufTy).Contents (Elt F)),
    binary main_v14 main_v58 main_v59 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    nullary main_cst_13 (constant S_ .f32 0x40000000#32),
    unary main_cst_13 main_v60 (broadcastInDim S50000x128 ![] bcast_S_S50000x128 : (⟨S_, .f32⟩ : BufTy).Contents (Elt F) → (⟨S50000x128, .f32⟩ : BufTy).Contents (Elt F)),
    binary main_v60 main_v59 main_v61 (mulf : (⟨S50000x128, .f32⟩ : BufTy).Contents (Elt F) → (⟨S50000x128, .f32⟩ : BufTy).Contents (Elt F) → (⟨S50000x128, .f32⟩ : BufTy).Contents (Elt F)),
    binary main_v57 main_v61 main_v62 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    unary main_cst_14 main_v63 (broadcastInDim S50000x128 ![] bcast_S_S50000x128 : (⟨S_, .f32⟩ : BufTy).Contents (Elt F) → (⟨S50000x128, .f32⟩ : BufTy).Contents (Elt F)),
    binary main_v62 main_v63 main_v64 (maximumf : (⟨S50000x128, .f32⟩ : BufTy).Contents (Elt F) → (⟨S50000x128, .f32⟩ : BufTy).Contents (Elt F) → (⟨S50000x128, .f32⟩ : BufTy).Contents (Elt F)),
    unary main_v64 main_v65 (Host.sqrt : (⟨S50000x128, .f32⟩ : BufTy).Contents (Elt F) → (⟨S50000x128, .f32⟩ : BufTy).Contents (Elt F)),
    unary main_v34 main_v66 (broadcastInDim S50000x1 ![0] bcast_S50000_S50000x1_0 : (⟨S50000, .f32⟩ : BufTy).Contents (Elt F) → (⟨S50000x1, .f32⟩ : BufTy).Contents (Elt F)),
    unary main_v41 main_v67 (broadcastInDim S1x128 ![1] bcast_S128_S1x128_1 : (⟨S128, .f32⟩ : BufTy).Contents (Elt F) → (⟨S1x128, .f32⟩ : BufTy).Contents (Elt F)),
    unary main_v66 main_v68 (broadcastInDim S50000x128 ![0, 1] bcast_S50000x1_S50000x128_0_1 : (⟨S50000x1, .f32⟩ : BufTy).Contents (Elt F) → (⟨S50000x128, .f32⟩ : BufTy).Contents (Elt F)),
    unary main_v67 main_v69 (broadcastInDim S50000x128 ![0, 1] bcast_S1x128_S50000x128_0_1 : (⟨S1x128, .f32⟩ : BufTy).Contents (Elt F) → (⟨S50000x128, .f32⟩ : BufTy).Contents (Elt F)),
    binary main_v68 main_v69 main_v70 (mulf : (⟨S50000x128, .f32⟩ : BufTy).Contents (Elt F) → (⟨S50000x128, .f32⟩ : BufTy).Contents (Elt F) → (⟨S50000x128, .f32⟩ : BufTy).Contents (Elt F)),
    binary main_v17 main_v64 main_v71 (mulf : (⟨S50000x128, .f32⟩ : BufTy).Contents (Elt F) → (⟨S50000x128, .f32⟩ : BufTy).Contents (Elt F) → (⟨S50000x128, .f32⟩ : BufTy).Contents (Elt F)),
    binary main_v71 main_v70 main_v72 (mulf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    binary main_v72 main_cst_15 main_v73 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    nullary main_cst_16 (constant S_ .f32 0x3F800000#32),
    unary main_cst_16 main_v74 (broadcastInDim S50000x128 ![] bcast_S_S50000x128 : (⟨S_, .f32⟩ : BufTy).Contents (Elt F) → (⟨S50000x128, .f32⟩ : BufTy).Contents (Elt F)),
    binary main_v74 main_v17 main_v75 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3F800000#32),
    unary main_cst_17 main_v76 (broadcastInDim S50000x128 ![] bcast_S_S50000x128 : (⟨S_, .f32⟩ : BufTy).Contents (Elt F) → (⟨S50000x128, .f32⟩ : BufTy).Contents (Elt F)),
    binary main_v76 main_v65 main_v77 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    unary main_cst_18 main_v78 (broadcastInDim S50000x128 ![] bcast_S_S50000x128 : (⟨S_, .f32⟩ : BufTy).Contents (Elt F) → (⟨S50000x128, .f32⟩ : BufTy).Contents (Elt F)),
    binary main_v77 main_v78 main_v79 (maximumf : (⟨S50000x128, .f32⟩ : BufTy).Contents (Elt F) → (⟨S50000x128, .f32⟩ : BufTy).Contents (Elt F) → (⟨S50000x128, .f32⟩ : BufTy).Contents (Elt F)),
    binary main_v75 main_v79 main_v80 (mulf : (⟨S50000x128, .f32⟩ : BufTy).Contents (Elt F) → (⟨S50000x128, .f32⟩ : BufTy).Contents (Elt F) → (⟨S50000x128, .f32⟩ : BufTy).Contents (Elt F)),
    binary main_v80 main_v70 main_v81 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v81 main_cst_19 main_v82 ((fun x v => Host.reduceAdd x v reducesTo_S50000x128_S_d0_1 h_S_) : (⟨S50000x128, .f32⟩ : BufTy).Contents (Elt F) → (⟨S_, .f32⟩ : BufTy).Contents (Elt F) → (⟨S_, .f32⟩ : BufTy).Contents (Elt F)),
    binary main_v73 main_v82 main_v83 (addf : (⟨S_, .f32⟩ : BufTy).Contents (Elt F) → (⟨S_, .f32⟩ : BufTy).Contents (Elt F) → (⟨S_, .f32⟩ : BufTy).Contents (Elt F)),
    nullary main_cst_20 (constant S_ .f32 0x47435000#32),
    binary main_v83 main_cst_20 main_v84 (Host.divf : (⟨S_, .f32⟩ : BufTy).Contents (Elt F) → (⟨S_, .f32⟩ : BufTy).Contents (Elt F) → (⟨S_, .f32⟩ : BufTy).Contents (Elt F)),
    nullary main_c_21 (constantI S_ 32 0#32),
    unary main_c_21 main_v85 (broadcastInDim S50000 ![] bcast_S_S50000 : (⟨S_, .i32⟩ : BufTy).Contents (Elt F) → (⟨S50000, .i32⟩ : BufTy).Contents (Elt F)),
    binary main_arg1 main_v85 main_v86 (cmpi .slt : (⟨S50000, .i32⟩ : BufTy).Contents (Elt F) → (⟨S50000, .i32⟩ : BufTy).Contents (Elt F) → (⟨S50000, .i1⟩ : BufTy).Contents (Elt F)),
    unary main_v86 main_v87 ((extui 32 · natLt_1_32) : (⟨S50000, .i1⟩ : BufTy).Contents (Elt F) → (⟨S50000, .i32⟩ : BufTy).Contents (Elt F)),
    nullary main_c_22 (constantI S_ 32 0#32),
    binary main_v87 main_c_22 main_v88 ((fun x v => Host.reduce IntOp.addi x v reducesTo_S50000_S_d0 h_S_) : (⟨S50000, .i32⟩ : BufTy).Contents (Elt F) → (⟨S_, .i32⟩ : BufTy).Contents (Elt F) → (⟨S_, .i32⟩ : BufTy).Contents (Elt F)),
    nullary main_c_23 (constantI S_ 32 0#32),
    binary main_v88 main_c_23 main_v89 (cmpi .sgt : (⟨S_, .i32⟩ : BufTy).Contents (Elt F) → (⟨S_, .i32⟩ : BufTy).Contents (Elt F) → (⟨S_, .i1⟩ : BufTy).Contents (Elt F)),
    nullary main_cst_24 (constant S_ .f32 0x00000000#32),
    TRef.unary (TRef.of (T := ⟨S_, .f32⟩) main_cst_24) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v86) (TRef.of (T := ⟨S50000, .f32⟩) main_v10) (TRef.of (T := ⟨S50000, .f32⟩) main_call4_v1) (TRef.of (T := ⟨S50000, .f32⟩) main_v90) select,
    nullary main_cst_25 (constant S_ .f32 0x00000000#32),
    binary main_v90 main_cst_25 main_v91 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_c_26 (constantI S_ 32 1#32),
    binary main_v88 main_c_26 main_v92 (maxsi : (⟨S_, .i32⟩ : BufTy).Contents (Elt F) → (⟨S_, .i32⟩ : BufTy).Contents (Elt F) → (⟨S_, .i32⟩ : BufTy).Contents (Elt F)),
    unary main_v92 main_v93 (sitofp .f32 : (⟨S_, .i32⟩ : BufTy).Contents (Elt F) → (⟨S_, .f32⟩ : BufTy).Contents (Elt F)),
    binary main_v91 main_v93 main_v94 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    TRef.unary (TRef.of (T := ⟨S_, .f32⟩) main_cst_27) (TRef.of (T := ⟨S_, .f32⟩) main_call5_v0) id,
    TRef.ternary (TRef.of (T := ⟨S_, .i1⟩) main_v89) (TRef.of (T := ⟨S_, .f32⟩) main_v94) (TRef.of (T := ⟨S_, .f32⟩) main_call5_v0) (TRef.of (T := ⟨S_, .f32⟩) main_v95) select,
    nullary main_cst_28 (constant S_ .f32 0x3F800000#32),
    unary main_cst_28 main_v96 (broadcastInDim S128 ![] bcast_S_S128 : (⟨S_, .f32⟩ : BufTy).Contents (Elt F) → (⟨S128, .f32⟩ : BufTy).Contents (Elt F)),
    binary main_v96 main_v48 main_v97 (subf : (⟨S128, .f32⟩ : BufTy).Contents (Elt F) → (⟨S128, .f32⟩ : BufTy).Contents (Elt F) → (⟨S128, .f32⟩ : BufTy).Contents (Elt F)),
    nullary main_cst_29 (constant S_ .f32 0x00000000#32),
    binary main_v97 main_cst_29 main_v98 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_30 (constant S_ .f32 0x43000000#32),
    binary main_v98 main_cst_30 main_v99 (Host.divf : (⟨S_, .f32⟩ : BufTy).Contents (Elt F) → (⟨S_, .f32⟩ : BufTy).Contents (Elt F) → (⟨S_, .f32⟩ : BufTy).Contents (Elt F)),
    nullary main_cst_31 (constant S_ .f32 0x3F800000#32),
    binary main_cst_31 main_v95 main_v100 (mulf : (⟨S_, .f32⟩ : BufTy).Contents (Elt F) → (⟨S_, .f32⟩ : BufTy).Contents (Elt F) → (⟨S_, .f32⟩ : BufTy).Contents (Elt F)),
    binary main_v99 main_v100 main_v101 (addf : (⟨S_, .f32⟩ : BufTy).Contents (Elt F) → (⟨S_, .f32⟩ : BufTy).Contents (Elt F) → (⟨S_, .f32⟩ : BufTy).Contents (Elt F)),
    binary main_v84 main_v101 main_v102 (addf : (⟨S_, .f32⟩ : BufTy).Contents (Elt F) → (⟨S_, .f32⟩ : BufTy).Contents (Elt F) → (⟨S_, .f32⟩ : BufTy).Contents (Elt F)),
    binary main_v16 main_v102 main_v103 (mulf : (⟨S_, .f32⟩ : BufTy).Contents (Elt F) → (⟨S_, .f32⟩ : BufTy).Contents (Elt F) → (⟨S_, .f32⟩ : BufTy).Contents (Elt F)),
    binary main_v103 main_arg6 main_v104 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., unary_bufs_sub .., nullary_bufs_sub .., unary_bufs_sub .., unary_bufs_sub .., binary_bufs_sub .., unary_bufs_sub .., nullary_bufs_sub .., unary_bufs_sub .., binary_bufs_sub .., unary_bufs_sub .., nullary_bufs_sub .., unary_bufs_sub .., unary_bufs_sub .., unary_bufs_sub .., ternary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub .., nullary_bufs_sub .., unary_bufs_sub .., binary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., unary_bufs_sub .., ternary_bufs_sub .., nullary_bufs_sub .., unary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub ..⟩

/-- The result the reference leaves, from the launch memory. -/
abbrev res (m : (ℓ : Loc nD τ sig) → Buf (Elt F) ℓ) (c : Dev nD) : Buf (Elt F) ((c.tc : Thread nD τ).loc main_v104) :=
  rRes (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

set_option maxRecDepth 8192 in
set_option maxHeartbeats 63600000 in
/-- The reference's run: the result at its stages, the arguments as launched, every semaphore counter at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v104).trans (by simp only [ops, TRef.binary, TRef.nullary, TRef.quaternary, TRef.ternary, TRef.unary, TRef.toBuf, TRef.ofBuf, cast_eq]; after_results_simp <;> rfl <;> (unfold res rRes rLoss rBeta rNoise rNumNoise rIsNoise rAtt rRep rQQ rD2 rPick rXa rQ rRow rBest rCol rMask rOx rOf; rfl)),
      (h c main_arg0).trans (by simp only [ops, TRef.binary, TRef.nullary, TRef.quaternary, TRef.ternary, TRef.unary, TRef.toBuf, TRef.ofBuf, cast_eq]; after_results_simp <;> rfl),
      (h c main_arg1).trans (by simp only [ops, TRef.binary, TRef.nullary, TRef.quaternary, TRef.ternary, TRef.unary, TRef.toBuf, TRef.ofBuf, cast_eq]; after_results_simp <;> rfl),
      (h c main_arg2).trans (by simp only [ops, TRef.binary, TRef.nullary, TRef.quaternary, TRef.ternary, TRef.unary, TRef.toBuf, TRef.ofBuf, cast_eq]; after_results_simp <;> rfl),
      (h c main_arg3).trans (by simp only [ops, TRef.binary, TRef.nullary, TRef.quaternary, TRef.ternary, TRef.unary, TRef.toBuf, TRef.ofBuf, cast_eq]; after_results_simp <;> rfl),
      (h c main_arg4).trans (by simp only [ops, TRef.binary, TRef.nullary, TRef.quaternary, TRef.ternary, TRef.unary, TRef.toBuf, TRef.ofBuf, cast_eq]; after_results_simp <;> rfl),
      (h c main_arg5).trans (by simp only [ops, TRef.binary, TRef.nullary, TRef.quaternary, TRef.ternary, TRef.unary, TRef.toBuf, TRef.ofBuf, cast_eq]; after_results_simp <;> rfl),
      (h c main_arg6).trans (by simp only [ops, TRef.binary, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

end Cert.Proof.Ref

end
-- ==== Proof.Model.lean ====
/-
  The loss as a real number, and the arithmetic both programs share: the constants, the score, the charge, sums of reals
  among the extended reals, the first largest of finitely many values, and the chosen hit of an instance.
-/
module

public import Idealize.ShloMosaic.Lib.Pointwise

@[expose] public section

set_option maxRecDepth 16384

noncomputable section

namespace Cert.Proof.Model

open Idealize.ShloMosaic

/-! ## Reals among the extended reals -/

theorem coe_sum {ι : Type} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm
theorem one_sub_coe (a : ℝ) : (1 : EReal) - (a : EReal) = ((1 - a : ℝ) : EReal) := by rw [EReal.coe_sub, EReal.coe_one]
theorem one_add_coe (a : ℝ) : (1 : EReal) + (a : EReal) = ((1 + a : ℝ) : EReal) := by rw [EReal.coe_add, EReal.coe_one]
theorem max_coe_zero (a : ℝ) : max (a : EReal) 0 = ((max a 0 : ℝ) : EReal) := by rw [← EReal.coe_zero, coe_max]
theorem zero_max_coe (a : ℝ) : max (0 : EReal) (a : EReal) = ((max 0 a : ℝ) : EReal) := by rw [← EReal.coe_zero, coe_max]

theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]
theorem sqrt_coe (a : ℝ) (h : 0 ≤ a) : Ideal.sqrt (a : EReal) = ((Real.sqrt a : ℝ) : EReal) := if_neg (not_lt.mpr h)
theorem log_coe (a : ℝ) (h : 0 < a) : Ideal.log (a : EReal) = ((Real.log a : ℝ) : EReal) := if_neg (not_le.mpr h)
theorem atanh_coe (a : ℝ) (h0 : 0 ≤ a) (h1 : a < 1) : Ideal.atanh (a : EReal) = ((Real.artanh a : ℝ) : EReal) := by
  show (if a = 1 then ⊤ else if a = -1 then ⊥ else if -1 < a ∧ a < 1 then (Real.artanh a : EReal) else ⊥) = _
  rw [if_neg (by linarith), if_neg (by linarith), if_pos ⟨by linarith, h1⟩]

/-- A finite value is a real. -/
theorem real_of {a : EReal} (h : max a (-a) < ⊤) : ∃ r : ℝ, a = (r : EReal) := by
  induction a using EReal.rec with
  | bot => simp at h
  | top => simp at h
  | coe r => exact ⟨r, rfl⟩

/-! ## The constants -/

/-- The largest charge argument: the number nearest to one minus a ten-thousandth. -/
def kap : ℝ := 16775538 / 16777216
theorem kap_pos : 0 < kap := by unfold kap; norm_num
theorem kap_lt : kap < 1 := by unfold kap; norm_num
theorem w_kap : Ideal.ofBits .f32 0x3F7FF972#32 = (kap : EReal) := by
  unfold kap
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_hits : Ideal.ofBits .f32 0x47435000#32 = ((50000 : ℝ) : EReal) := by
  simp [Ideal.ofBits, Ideal.ieee, -EReal.coe_mul]; norm_num
theorem w_inst : Ideal.ofBits .f32 0x43000000#32 = ((128 : ℝ) : EReal) := by
  simp [Ideal.ofBits, Ideal.ieee, -EReal.coe_mul]; norm_num
theorem w_bot : Ideal.ofBits .f32 0xFF800000#32 = ⊥ := by
  simp [Ideal.ofBits, Ideal.ieee]
/-- The score that stands for "no hit", -/
def neg : ℝ := -(13234890 * 2 ^ 76)
/-- and half of it. -/
def negH : ℝ := -(13234890 * 2 ^ 75)
theorem w_neg : Ideal.ofBits .f32 0xF149F2CA#32 = (neg : EReal) := by
  unfold neg
  simp [Ideal.ofBits, Ideal.ieee, -EReal.coe_mul, -EReal.coe_neg]
theorem w_negH : Ideal.ofBits .f32 0xF0C9F2CA#32 = (negH : EReal) := by
  unfold negH
  simp [Ideal.ofBits, Ideal.ieee, -EReal.coe_mul, -EReal.coe_neg]
theorem neg_lt : neg < 0 := by unfold neg; norm_num
theorem neg_le : neg ≤ negH := by unfold neg negH; norm_num
theorem negH_lt : negH < 0 := by unfold negH; norm_num

/-! ## The score and the charge -/

/-- The score of a hit, `1 / (1 + exp (-v))`, is a real number between zero and one whatever `v` is. -/
theorem score_real (v : EReal) : ∃ r : ℝ, 0 ≤ r ∧ r ≤ 1 ∧ Ideal.div 1 (1 + Ideal.exp (-v)) = (r : EReal) := by
  induction v using EReal.rec with
  | bot =>
    refine ⟨0, le_refl _, zero_le_one, ?_⟩
    rw [EReal.neg_bot]
    show Ideal.div 1 (1 + ⊤) = _
    rw [EReal.add_top_of_ne_bot (by decide)]
    unfold Ideal.div
    rw [if_neg (by decide), EReal.inv_top, mul_zero, EReal.coe_zero]
  | top =>
    refine ⟨1, zero_le_one, le_refl _, ?_⟩
    rw [EReal.neg_top]
    show Ideal.div 1 (1 + 0) = _
    rw [add_zero]
    unfold Ideal.div
    rw [if_neg one_ne_zero, one_mul, ← EReal.coe_one, ← EReal.coe_inv, inv_one]
  | coe r =>
    have hp := Real.exp_pos (-r)
    refine ⟨1 / (1 + Real.exp (-r)), by positivity, ?_, ?_⟩
    · rw [div_le_one (by positivity)]; linarith
    · rw [← EReal.coe_neg]
      show Ideal.div 1 (1 + ((Real.exp (-r) : ℝ) : EReal)) = _
      rw [one_add_coe, ← EReal.coe_one, div_coe _ _ (by positivity)]

/-- The charge of a hit of score `v`. -/
def qf (v : ℝ) : ℝ := Real.artanh (min kap (max 0 v)) * Real.artanh (min kap (max 0 v)) + 1 / 2

theorem clip_nonneg (v : ℝ) : 0 ≤ min kap (max 0 v) := le_min kap_pos.le (le_max_left _ _)
theorem clip_lt (v : ℝ) : min kap (max 0 v) < 1 := lt_of_le_of_lt (min_le_left _ _) kap_lt

/-- Half the logarithm of the quotient is the area tangent. -/
theorem half_log (v : ℝ) :
    Ideal.ofBits .f32 0x3F000000#32
        * Ideal.log (Ideal.div (1 + min (Ideal.ofBits .f32 0x3F7FF972#32) (max 0 (v : EReal))) (1 - min (Ideal.ofBits .f32 0x3F7FF972#32) (max 0 (v : EReal))))
      = ((Real.artanh (min kap (max 0 v)) : ℝ) : EReal) := by
  have h0 := clip_nonneg v
  have h1 := clip_lt v
  rw [w_half, w_kap, zero_max_coe, coe_min, one_add_coe, one_sub_coe, div_coe _ _ (by linarith), log_coe _ (div_pos (by linarith) (by linarith)),
    ← EReal.coe_mul, Real.artanh_eq_half_log ⟨by linarith, h1.le⟩]

/-- The kernel's charge. -/
theorem charge_log (v : ℝ) :
    (Ideal.ofBits .f32 0x3F000000#32
        * Ideal.log (Ideal.div (1 + min (Ideal.ofBits .f32 0x3F7FF972#32) (max 0 (v : EReal))) (1 - min (Ideal.ofBits .f32 0x3F7FF972#32) (max 0 (v : EReal)))))
      * (Ideal.ofBits .f32 0x3F000000#32
        * Ideal.log (Ideal.div (1 + min (Ideal.ofBits .f32 0x3F7FF972#32) (max 0 (v : EReal))) (1 - min (Ideal.ofBits .f32 0x3F7FF972#32) (max 0 (v : EReal)))))
      + Ideal.ofBits .f32 0x3F000000#32 = (qf v : EReal) := by
  rw [half_log, w_half, ← EReal.coe_mul, ← EReal.coe_add, qf]

/-- The reference's charge. -/
theorem charge_atanh (v : ℝ) :
    Ideal.atanh (min (Ideal.ofBits .f32 0x3F7FF972#32) (max 0 (v : EReal))) * Ideal.atanh (min (Ideal.ofBits .f32 0x3F7FF972#32) (max 0 (v : EReal)))
      + Ideal.ofBits .f32 0x3F000000#32 = (qf v : EReal) := by
  rw [w_half, w_kap, zero_max_coe, coe_min, atanh_coe _ (clip_nonneg v) (clip_lt v), ← EReal.coe_mul, ← EReal.coe_add, qf]

/-! ## The first largest of finitely many values -/

/-- Among finitely many values there is a first largest one. -/
theorem first_max {n : ℕ} (h : 0 < n) (f : Fin n → EReal) : ∃ a : Fin n, ∀ l, f l ≤ f a ∧ (l < a → f l < f a) := by
  classical
  obtain ⟨b, -, hb⟩ := Finset.exists_max_image (Finset.univ : Finset (Fin n)) f ⟨⟨0, h⟩, Finset.mem_univ _⟩
  have hne : (Finset.univ.filter fun l => f l = f b).Nonempty := ⟨b, by simp⟩
  refine ⟨(Finset.univ.filter fun l => f l = f b).min' hne, fun l => ?_⟩
  have he : f ((Finset.univ.filter fun l => f l = f b).min' hne) = f b := (Finset.mem_filter.1 (Finset.min'_mem _ hne)).2
  rw [he]
  refine ⟨hb l (Finset.mem_univ _), fun hl => lt_of_le_of_ne (hb l (Finset.mem_univ _)) fun e => ?_⟩
  exact absurd (Finset.min'_le _ l (Finset.mem_filter.2 ⟨Finset.mem_univ _, e⟩)) (not_le.mpr hl)

/-- The largest of them, as a fold. -/
theorem fold_max_eq {n : ℕ} (f : Fin n → EReal) (a : Fin n) (h : ∀ l, f l ≤ f a) : Finset.fold max ⊥ f Finset.univ = f a :=
  le_antisymm (Finset.fold_max_le (f a) |>.2 ⟨bot_le, fun l _ => h l⟩) ((Finset.le_fold_max (f a)).2 (.inr ⟨a, Finset.mem_univ _, le_refl _⟩))

theorem toInt_minsi (x y : BitVec 32) : (IntOp.minsi x y).toInt = min x.toInt y.toInt := by
  unfold IntOp.minsi
  split <;> rename_i h <;> simp only [BitVec.slt, BitVec.sle, decide_eq_true_eq] at h <;> omega

/-- The least of finitely many signed words, as a fold. -/
theorem fold_minsi_eq {n : ℕ} (f : Fin n → BitVec 32) (b : BitVec 32) (a : Fin n) (hb : (f a).toInt ≤ b.toInt) (h : ∀ l, (f a).toInt ≤ (f l).toInt) :
    Finset.fold IntOp.minsi b f Finset.univ = f a := by
  apply BitVec.eq_of_toInt_eq
  have e := Finset.fold_hom (op := IntOp.minsi) (op' := min) (s := (Finset.univ : Finset (Fin n))) (f := f) (b := b) (m := BitVec.toInt) toInt_minsi
  rw [← e]
  exact le_antisymm ((Finset.fold_min_le _).2 (.inr ⟨a, Finset.mem_univ _, le_refl _⟩)) ((Finset.le_fold_min _).2 ⟨hb, fun l _ => h l⟩)

/-! ## The loss -/

/-- Hit `a` is the one chosen for instance `k`: the first of its hits with the largest score, or hit 0 if it has none. -/
def IsAlpha (o : Fin 50000 → ℝ) (y : Fin 50000 → BitVec 32) (k : Fin 128) (a : Fin 50000) : Prop :=
  ((∀ n, y n ≠ BitVec.ofNat 32 k.val) ∧ a = 0)
    ∨ (y a = BitVec.ofNat 32 k.val ∧ ∀ n, y n = BitVec.ofNat 32 k.val → o n ≤ o a ∧ (n < a → o n < o a))

/-- There is only one such hit. -/
theorem IsAlpha.unique {o : Fin 50000 → ℝ} {y : Fin 50000 → BitVec 32} {k : Fin 128} {a b : Fin 50000} (ha : IsAlpha o y k a) (hb : IsAlpha o y k b) : a = b := by
  rcases ha with ⟨h, rfl⟩ | ⟨h, ha⟩ <;> rcases hb with ⟨h', rfl⟩ | ⟨h', hb⟩
  · rfl
  · exact absurd h' (h _)
  · exact absurd h (h' _)
  · rcases lt_trichotomy a b with hl | he | hl
    · exact absurd ((hb a h).2 hl) (not_lt.mpr (ha b h').1)
    · exact he
    · exact absurd ((ha b h').2 hl) (not_lt.mpr (hb a h).1)

/-- The squared distance of hits `n` and `a`. -/
def d2 (x : Fin 50000 → Fin 32 → ℝ) (a n : Fin 50000) : ℝ :=
  max ((∑ r, x n r * x n r) + (∑ r, x a r * x a r) - 2 * ∑ r, x n r * x a r) 0

/-- What hit `n` feels from the chosen hit `a` of instance `k`. -/
def pot (x : Fin 50000 → Fin 32 → ℝ) (y : Fin 50000 → BitVec 32) (k : Fin 128) (a n : Fin 50000) : ℝ :=
  if y n = BitVec.ofNat 32 k.val then d2 x a n else max (1 - Real.sqrt (d2 x a n)) 0

/-- The condensation loss, the chosen hits being `al`. -/
def loss (o : Fin 50000 → ℝ) (x : Fin 50000 → Fin 32 → ℝ) (y : Fin 50000 → BitVec 32) (al : Fin 128 → Fin 50000) : ℝ :=
  (∑ k, qf (o (al k)) * ∑ n, qf (o n) * pot x y k (al k) n) / 50000 + (1 - (∑ k, o (al k)) / 128)

theorem d2_nonneg (x : Fin 50000 → Fin 32 → ℝ) (a n : Fin 50000) : 0 ≤ d2 x a n := le_max_right _ _

end Cert.Proof.Model
-- ==== Proof.Block.lean ====
/-
  The kernel's payloads over the extended reals: each read at an index, then one block of the first phase (the running choice)
  and one block of the second (the potential), where the block's scores and embeddings are real numbers.
-/
module

public import proofs.«01_k».proof.Proof.State
public import proofs.«01_k».proof.Proof.Model

@[expose] public section

set_option maxRecDepth 16384

noncomputable section

namespace Cert.Proof.KernelIdeal

open Cert.KernelIdeal Cert.KernelIdeal.Gen Cert.Proof.Model
open Idealize.ShloMosaic

/-! ## The payloads at an index -/

section Reads
variable (x : Vec Ideal S10000x512 .f32) (w : Vec Ideal S512x33 .f32) (b : Vec Ideal S33x1 .f32)
  (v : FVec Ideal S1x10000 .f32) (y : Vec Ideal S1x1x10000 .i32)

theorem r17 (r : Fin 32) (l : Fin 10000) :
    k0_pay17 x w b (ix2 r l) = ∑ d : Fin 512, w (ix2 d ⟨r.val, by omega⟩) * x (ix2 l d) + b (ix2 ⟨r.val, by omega⟩ 0) := by
  pointwise [k0_pay17, k0_pay16]

theorem r18 (l : Fin 10000) :
    k0_pay18 x w b (ix2 0 l) = Ideal.div 1 (1 + Ideal.exp (0 - (∑ d : Fin 512, w (ix2 d ⟨32, by omega⟩) * x (ix2 l d) + b (ix2 ⟨32, by omega⟩ 0)))) := by
  pointwise [k0_pay18, k0_pay16]

theorem r20 (r : Fin 32) (l : Fin 10000) : k0_pay20 x w b (ix3 0 r l) = k0_pay17 x w b (ix2 r l) := by
  pointwise [k0_pay20, k0_pay19]

theorem r21 (l : Fin 10000) : k0_pay21 x w b (ix3 0 0 l) = ∑ r : Fin 32, k0_pay17 x w b (ix2 r l) * k0_pay17 x w b (ix2 r l) := by
  pointwise [k0_pay21]

theorem r23 (l : Fin 10000) (o : ℝ) (h : k0_pay18 x w b (ix2 0 l) = (o : EReal)) : k0_pay23 (k0_pay22 x w b) (ix3 0 0 l) = (qf o : EReal) := by
  rw [← charge_log, ← h]
  pointwise [k0_pay23, k0_pay22]

theorem r37 (a : Vec Ideal S128x1 .f32) (k : Fin 128) (o : ℝ) (h : a (ix2 k 0) = (o : EReal)) : k0_pay37 a (ix2 k 0) = (qf o : EReal) := by
  rw [← charge_log, ← h]
  pointwise [k0_pay37]

theorem cmpi_same (p : BitVec 32) : IntOp.cmpi .eq p p = 1#1 := by simp [IntOp.cmpi]
theorem cmpi_ne {p q : BitVec 32} (h : p ≠ q) : IntOp.cmpi .eq p q = 0#1 := by
  unfold IntOp.cmpi
  rw [beq_false_of_ne h]; rfl
theorem sit (p : BitVec 32) : FloatOps.sitofp (F := Ideal) FTy.f32 p = ((p.toInt : ℝ) : EReal) := rfl
theorem bit_one : FloatOps.sitofp (F := Ideal) FTy.f32 (BitVec.setWidth 32 (1#1)) = (1 : EReal) := by
  rw [sit, show (BitVec.setWidth 32 (1#1)).toInt = 1 by decide]; norm_num
theorem bit_zero : FloatOps.sitofp (F := Ideal) FTy.f32 (BitVec.setWidth 32 (0#1)) = (0 : EReal) := by
  rw [sit, show (BitVec.setWidth 32 (0#1)).toInt = 0 by decide]; norm_num

theorem select_eq {α : Type} (p q : BitVec 32) (a c : α) : Scalar.select (IntOp.cmpi .eq p q) a c = if p = q then a else c := by
  simp only [IntOp.cmpi]
  by_cases h : p = q
  · rw [if_pos h]; subst h; simp [Scalar.select]
  · rw [if_neg h, beq_false_of_ne h]; simp [Scalar.select]

theorem r24 (k : Fin 128) (l : Fin 10000) :
    k0_pay24 v y (ix2 k l) = if y (ix3 0 0 l) = BitVec.ofNat 32 k.val then v (ix2 0 l) else (neg : EReal) := by
  rw [← w_neg, ← select_eq]
  pointwise [k0_pay24]

theorem r25 (k : Fin 128) : k0_pay25 v y (ix2 k 0) = Finset.fold max ⊥ (fun l => k0_pay24 v y (ix2 k l)) Finset.univ := by
  rw [← w_bot]
  pointwise [k0_pay25]

theorem r26 (k : Fin 128) (l : Fin 10000) :
    k0_pay26 v y (ix2 k l) = if k0_pay24 v y (ix2 k l) = k0_pay25 v y (ix2 k 0) then BitVec.ofNat 32 l.val else BitVec.ofNat 32 (l.val + 1073741824) := by
  pointwise [k0_pay26]
  refine congrArg (ite _ _) ?_
  simp [IntOp.addi, BitVec.ofNat_add]

theorem r27 (k : Fin 128) : k0_pay27 v y (ix2 k 0) = Finset.fold IntOp.minsi (2147483647#32) (fun l => k0_pay26 v y (ix2 k l)) Finset.univ := by
  pointwise [k0_pay27]

theorem toInt_small (n : ℕ) (h : n < 2147483648) : (BitVec.ofNat 32 n).toInt = n := by
  rw [BitVec.toInt_eq_toNat_of_lt (by rw [BitVec.toNat_ofNat]; omega), BitVec.toNat_ofNat]
  omega

/-- Everything the block's comparison finds is at the first largest lane. -/
theorem best (k : Fin 128) (a : Fin 10000) (h : ∀ l, k0_pay24 v y (ix2 k l) ≤ k0_pay24 v y (ix2 k a) ∧ (l < a → k0_pay24 v y (ix2 k l) < k0_pay24 v y (ix2 k a))) :
    k0_pay25 v y (ix2 k 0) = k0_pay24 v y (ix2 k a) ∧ k0_pay27 v y (ix2 k 0) = BitVec.ofNat 32 a.val
      ∧ ∀ l, k0_pay28 v y (ix2 k l) = if l = a then (1 : EReal) else 0 := by
  have e25 : k0_pay25 v y (ix2 k 0) = k0_pay24 v y (ix2 k a) := (r25 v y k).trans (fold_max_eq _ a fun l => (h l).1)
  have ha : k0_pay26 v y (ix2 k a) = BitVec.ofNat 32 a.val := by rw [r26, e25, if_pos rfl]
  have hlow : ∀ l, l ≠ a → a.val < (k0_pay26 v y (ix2 k l)).toInt := fun l hl => by
    rw [r26, e25]
    split
    · rename_i he
      rw [toInt_small _ (by omega)]
      have : ¬ l < a := fun hla => absurd he (ne_of_lt ((h l).2 hla))
      have := Fin.val_ne_of_ne hl
      omega
    · rw [toInt_small _ (by omega)]
      omega
  have e27 : k0_pay27 v y (ix2 k 0) = BitVec.ofNat 32 a.val := by
    rw [r27, ← ha]
    refine fold_minsi_eq (fun l => k0_pay26 v y (ix2 k l)) _ a ?_ fun l => ?_
    · show (k0_pay26 v y (ix2 k a)).toInt ≤ _
      rw [ha, toInt_small _ (by omega), show (2147483647#32).toInt = 2147483647 by decide]
      omega
    · by_cases hl : l = a
      · rw [hl]
      · show (k0_pay26 v y (ix2 k a)).toInt ≤ (k0_pay26 v y (ix2 k l)).toInt
        have := hlow l hl
        rw [ha, toInt_small _ (by omega)]
        omega
  refine ⟨e25, e27, fun l => ?_⟩
  have e28 : k0_pay28 v y (ix2 k l) = FloatOps.sitofp (F := Ideal) FTy.f32 (BitVec.setWidth 32 (IntOp.cmpi CmpIPredicate.eq (k0_pay26 v y (ix2 k l)) (k0_pay27 v y (ix2 k 0)))) := by
    pointwise [k0_pay28]
  rw [e28, e27, ← ha]
  by_cases hl : l = a
  · subst hl
    rw [if_pos rfl, cmpi_same, bit_one]
  · have hne : k0_pay26 v y (ix2 k l) ≠ k0_pay26 v y (ix2 k a) := fun e => by
      have := hlow l hl
      rw [e, ha, toInt_small _ (by omega)] at this
      omega
    rw [if_neg hl, cmpi_ne hne, bit_zero]

theorem r29 (j : Fin 5) (k : Fin 128) (a : Fin 10000) (h : k0_pay27 v y (ix2 k 0) = BitVec.ofNat 32 a.val) :
    k0_pay29 (BitVec.ofNat 32 j.val) v y (ix2 k 0) = (((j.val * 10000 + a.val : ℕ) : ℝ) : EReal) := by
  have e : k0_pay29 (BitVec.ofNat 32 j.val) v y (ix2 k 0)
      = FloatOps.sitofp (F := Ideal) FTy.f32 (IntOp.addi (k0_pay27 v y (ix2 k 0)) (Scalar.muli (BitVec.ofNat 32 j.val) 10000#32)) := by
    pointwise [k0_pay29]
  have e' : IntOp.addi (BitVec.ofNat 32 a.val) (Scalar.muli (BitVec.ofNat 32 j.val) 10000#32) = BitVec.ofNat 32 (j.val * 10000 + a.val) := by
    unfold IntOp.addi Scalar.muli IntOp.muli
    rw [Nat.add_comm, BitVec.ofNat_add, BitVec.ofNat_mul]
  rw [e, h, sit, e', toInt_small _ (by omega)]
  rw [Int.cast_natCast]

/-- The block's chosen embedding: the embedding at that lane (the second product is of zeros). -/
theorem pick (u : FVec Ideal S32x10000 .f32) (u' : FVec Ideal S32x10000 .bf16) (k : Fin 128) (a : Fin 10000) (r : Fin 32) (X : Fin 10000 → ℝ)
    (hu : ∀ l, u (ix2 r l) = (X l : EReal)) (hu' : ∀ l, u' (ix2 r l) = (X l : EReal))
    (h : ∀ l, k0_pay28 v y (ix2 k l) = if l = a then (1 : EReal) else 0) :
    k0_pay32 v u' y (ix2 k r) + k0_pay33 u v u' y (ix2 k r) = (X a : EReal) := by
  have e32 : k0_pay32 v u' y (ix2 k r) = ∑ l, k0_pay28 v y (ix2 k l) * u' (ix2 r l) := by pointwise [k0_pay32, k0_pay30]
  have e33 : k0_pay33 u v u' y (ix2 k r) = ∑ l, k0_pay28 v y (ix2 k l) * (u (ix2 r l) - u' (ix2 r l)) := by pointwise [k0_pay33, k0_pay31, k0_pay30]
  rw [e32, e33, Finset.sum_eq_single a, Finset.sum_eq_zero, h, if_pos rfl, one_mul, hu', add_zero]
  · intro l _
    rw [hu, hu', ← EReal.coe_sub, sub_self, EReal.coe_zero, mul_zero]
  · intro l _ hl
    rw [h, if_neg hl, zero_mul]
  · intro hn
    exact absurd (Finset.mem_univ _) hn

/-- The first point's embedding. -/
theorem first_pick (u u' : FVec Ideal S32x10000 .f32) (r : Fin 32) (X : Fin 10000 → ℝ)
    (hu : ∀ l, u (ix2 r l) = (X l : EReal)) (hu' : ∀ l, u' (ix2 r l) = 0) :
    k0_pay5 (iota .tc S1x10000 32 [1] iota_S1x10000_d1_w32) u u' (ix2 0 r) = (X 0 : EReal) := by
  have e : k0_pay5 (iota .tc S1x10000 32 [1] iota_S1x10000_d1_w32) u u' (ix2 0 r)
      = ∑ l : Fin 10000, FloatOps.sitofp (F := Ideal) FTy.f32 (BitVec.setWidth 32 (IntOp.cmpi CmpIPredicate.eq (BitVec.ofNat 32 l.val) 0#32)) * u (ix2 r l)
        + ∑ l : Fin 10000, FloatOps.sitofp (F := Ideal) FTy.f32 (BitVec.setWidth 32 (IntOp.cmpi CmpIPredicate.eq (BitVec.ofNat 32 l.val) 0#32)) * u' (ix2 r l) := by
    pointwise [k0_pay5]
  have hz : ∀ l : Fin 10000, l ≠ 0 → FloatOps.sitofp (F := Ideal) FTy.f32 (BitVec.setWidth 32 (IntOp.cmpi CmpIPredicate.eq (BitVec.ofNat 32 l.val) 0#32)) = (0 : EReal) := fun l hl => by
    have hne : BitVec.ofNat 32 l.val ≠ 0#32 := fun e => by
      have e' := congrArg BitVec.toInt e
      rw [toInt_small _ (by omega), show (0#32).toInt = 0 by decide] at e'
      exact hl (Fin.ext (Int.ofNat.inj e'))
    rw [cmpi_ne hne, bit_zero]
  rw [e, Finset.sum_eq_single (0 : Fin 10000), Finset.sum_eq_zero, add_zero, hu]
  · rw [show (BitVec.ofNat 32 (0 : Fin 10000).val) = 0#32 from rfl, cmpi_same, bit_one, one_mul]
  · intro l _
    rw [hu', mul_zero]
  · intro l _ hl
    rw [hz l hl, zero_mul]
  · intro hn
    exact absurd (Finset.mem_univ _) hn

end Reads

end Cert.Proof.KernelIdeal
-- ==== Proof.Choice.lean ====
/-
  The first phase over the extended reals: after the blocks before it, the running choice of every instance is the first of
  its hits with the largest score, or nothing if it has had no hit; after the last block, the chosen hit's score and embedding.
-/
module

public import proofs.«01_k».proof.Proof.Block

@[expose] public section

set_option maxRecDepth 16384

noncomputable section

namespace Cert.Proof.KernelIdeal

open Cert.KernelIdeal Cert.KernelIdeal.Gen Cert.Proof.Model
open Idealize.ShloMosaic

/-- Hit `l` of block `j`. -/
@[irreducible] def hitAt (j : Fin 5) (l : Fin 10000) : Fin 50000 := ⟨j.val * 10000 + l.val, by omega⟩

theorem hitAt_val (j : Fin 5) (l : Fin 10000) : (hitAt j l).val = j.val * 10000 + l.val := by unfold hitAt; rfl

theorem hitAt_surj (n : Fin 50000) (j : Fin 5) (h : j.val * 10000 ≤ n.val) (h' : n.val < (j.val + 1) * 10000) : ∃ l, hitAt j l = n :=
  ⟨⟨n.val - j.val * 10000, by omega⟩, Fin.ext (by rw [hitAt_val]; show j.val * 10000 + (n.val - j.val * 10000) = n.val; omega)⟩

section Step
variable (o : Fin 50000 → ℝ) (X : Fin 50000 → Fin 32 → ℝ) (Y : Fin 50000 → BitVec 32)

/-- Block `j` carries the scores `o`, the embeddings `X` and the instance ids `Y`. -/
structure Carries (j : Fin 5) (x : Vec Ideal S10000x512 .f32) (w : Vec Ideal S512x33 .f32) (b : Vec Ideal S33x1 .f32) (y : Vec Ideal S1x1x10000 .i32) : Prop where
  sc : ∀ l, k0_pay18 x w b (ix2 0 l) = (o (hitAt j l) : EReal)
  em : ∀ r l, k0_pay17 x w b (ix2 r l) = (X (hitAt j l) r : EReal)
  id : ∀ l, y (ix3 0 0 l) = Y (hitAt j l)

/-- The running choice for instance `k` after the first `n` blocks. -/
def Chosen (k : Fin 128) (n : ℕ) (s : Car Ideal) : Prop :=
  ((∀ i : Fin 50000, i.val < n * 10000 → Y i ≠ BitVec.ofNat 32 k.val) ∧ s.2.2 (ix2 k 0) = (neg : EReal))
    ∨ ∃ a : Fin 50000, a.val < n * 10000 ∧ Y a = BitVec.ofNat 32 k.val
        ∧ (∀ i : Fin 50000, i.val < n * 10000 → Y i = BitVec.ofNat 32 k.val → o i ≤ o a ∧ (i < a → o i < o a))
        ∧ s.2.2 (ix2 k 0) = (o a : EReal) ∧ s.2.1 (ix2 k 0) = ((a.val : ℝ) : EReal) ∧ ∀ r, s.1 (ix2 k r) = (X a r : EReal)

theorem chosen_zero (k : Fin 128) : Chosen o X Y k 0 car0 := by
  refine .inl ⟨fun i hi => absurd hi (by omega), ?_⟩
  show (k0_pay1 (F := Ideal)) (ix2 k 0) = _
  rw [← w_neg]
  pointwise [k0_pay1]

variable {o X Y}

theorem pick_bits (p q r : Prop) [Decidable p] [Decidable q] [Decidable r] {α : Type} (a c : α) :
    Scalar.select (IntOp.ori (BitVec.ofBool (decide p)) (IntOp.andi (BitVec.ofBool (decide q)) (BitVec.ofBool (decide r)))) a c
      = if p ∨ (q ∧ r) then a else c := by
  by_cases hp : p <;> by_cases hq : q <;> by_cases hr : r <;> simp [hp, hq, hr, Scalar.select, IntOp.ori, IntOp.andi]

theorem r10 (p q : Vec Ideal S128x1 .f32) (k : Fin 128) : k0_pay10 p q (ix2 k 0) = max (q (ix2 k 0)) (p (ix2 k 0)) := by
  pointwise [k0_pay10]
theorem r9 (p i q i' : Vec Ideal S128x1 .f32) (k : Fin 128) :
    k0_pay9 p i q i' (ix2 k 0)
      = if q (ix2 k 0) < p (ix2 k 0) then i (ix2 k 0) else if p (ix2 k 0) = q (ix2 k 0) then min (i' (ix2 k 0)) (i (ix2 k 0)) else i' (ix2 k 0) := by
  pointwise [k0_pay9, k0_pay6, k0_pay7]
theorem r8 (p i : Vec Ideal S128x1 .f32) (u u' : Vec Ideal S128x32 .f32) (q i' : Vec Ideal S128x1 .f32) (z : Vec Ideal S128x32 .f32) (k : Fin 128) (r : Fin 32) :
    k0_pay8 p i u u' q i' z (ix2 k r)
      = if q (ix2 k 0) < p (ix2 k 0) ∨ (p (ix2 k 0) = q (ix2 k 0) ∧ i (ix2 k 0) < i' (ix2 k 0)) then u (ix2 k r) + u' (ix2 k r) else z (ix2 k r) := by
  rw [← pick_bits]
  pointwise [k0_pay8, k0_pay6, k0_pay7]

theorem carStep_idx (j : Fin 5) (x : Vec Ideal S10000x512 .f32) (w : Vec Ideal S512x33 .f32) (b : Vec Ideal S33x1 .f32) (y : Vec Ideal S1x1x10000 .i32)
    (s : Car Ideal) : (carStep j x w b y s).2.1
      = k0_pay9 (k0_pay25 (k0_pay18 x w b) y) (k0_pay29 (BitVec.ofNat 32 j.val) (k0_pay18 x w b) y) s.2.2 s.2.1 := by
  unfold carStep
  with_reducible rfl

/-- One block's step, given the block's best lane `a`: its masked score `M`, its hit number and its embedding. -/
theorem step_reads {j : Fin 5} {x : Vec Ideal S10000x512 .f32} {w : Vec Ideal S512x33 .f32} {b : Vec Ideal S33x1 .f32} {y : Vec Ideal S1x1x10000 .i32}
    (hB : Carries o X Y j x w b y) (k : Fin 128) (s : Car Ideal) :
    ∃ a : Fin 10000, ∃ f : Fin 10000 → EReal,
      (∀ l, f l = if Y (hitAt j l) = BitVec.ofNat 32 k.val then (o (hitAt j l) : EReal) else (neg : EReal))
      ∧ (∀ l, f l ≤ f a ∧ (l < a → f l < f a))
      ∧ (carStep j x w b y s).2.2 (ix2 k 0) = max (s.2.2 (ix2 k 0)) (f a)
      ∧ (carStep j x w b y s).2.1 (ix2 k 0)
          = (if s.2.2 (ix2 k 0) < f a then (((hitAt j a).val : ℝ) : EReal)
              else if f a = s.2.2 (ix2 k 0) then min (s.2.1 (ix2 k 0)) (((hitAt j a).val : ℝ) : EReal) else s.2.1 (ix2 k 0))
      ∧ ∀ r, (carStep j x w b y s).1 (ix2 k r)
          = if s.2.2 (ix2 k 0) < f a ∨ (f a = s.2.2 (ix2 k 0) ∧ (((hitAt j a).val : ℝ) : EReal) < s.2.1 (ix2 k 0))
            then (X (hitAt j a) r : EReal) else s.1 (ix2 k r) := by
  obtain ⟨a, ha⟩ := first_max (by omega) (fun l => k0_pay24 (k0_pay18 x w b) y (ix2 k l))
  obtain ⟨e25, e27, e28⟩ := best (k0_pay18 x w b) y k a ha
  have e29 := r29 (k0_pay18 x w b) y j k a e27
  refine ⟨a, fun l => k0_pay24 (k0_pay18 x w b) y (ix2 k l), fun l => ?_, ha, ?_, ?_, fun r => ?_⟩ <;> dsimp only
  · rw [r24, hB.sc, hB.id]
  · exact (r10 _ _ k).trans (by rw [e25])
  · rw [carStep_idx, r9]
    simp only [e25, e29, hitAt_val]
  · have e := pick (k0_pay18 x w b) y (k0_pay17 x w b) (k0_pay19 x w b) k a r (fun l => X (hitAt j l) r) (hB.em r) (fun l => by
      rw [← hB.em r l]; pointwise [k0_pay19]) e28
    show k0_pay8 _ _ _ _ _ _ _ (ix2 k r) = _
    rw [r8]
    simp only [e25, e29, hitAt_val, e]

/-- A block keeps the choice. -/
theorem chosen_step (ho : ∀ n, 0 ≤ o n) {j : Fin 5} {x : Vec Ideal S10000x512 .f32} {w : Vec Ideal S512x33 .f32} {b : Vec Ideal S33x1 .f32} {y : Vec Ideal S1x1x10000 .i32}
    (hB : Carries o X Y j x w b y) (k : Fin 128) (s : Car Ideal) (h : Chosen o X Y k j.val s) : Chosen o X Y k (j.val + 1) (carStep j x w b y s) := by
  obtain ⟨a, f, hf, hmax, hbal, hidx, hxal⟩ := step_reads hB k s
  have hlow : ∀ n, (neg : EReal) < (o n : EReal) := fun n => EReal.coe_lt_coe_iff.2 (lt_of_lt_of_le neg_lt (ho n))
  -- a hit of the first `j + 1` blocks is in the first `j` or in this one
  have hsplit : ∀ i : Fin 50000, i.val < (j.val + 1) * 10000 → i.val < j.val * 10000 ∨ ∃ l, hitAt j l = i := fun i hi => by
    by_cases hc : i.val < j.val * 10000
    · exact .inl hc
    · exact .inr (hitAt_surj i j (by omega) hi)
  by_cases hyes : ∃ l, Y (hitAt j l) = BitVec.ofNat 32 k.val
  · -- the block has a hit of the instance: its best lane is one
    obtain ⟨l₀, hl₀⟩ := hyes
    have hYa : Y (hitAt j a) = BitVec.ofNat 32 k.val := by
      by_contra hn
      have h1 := (hmax l₀).1
      rw [hf l₀, hf a, if_pos hl₀, if_neg hn] at h1
      exact absurd h1 (not_le.mpr (hlow _))
    have hfa : f a = (o (hitAt j a) : EReal) := by rw [hf, if_pos hYa]
    have hblk : ∀ l, Y (hitAt j l) = BitVec.ofNat 32 k.val → o (hitAt j l) ≤ o (hitAt j a) ∧ (l < a → o (hitAt j l) < o (hitAt j a)) := fun l hl => by
      have h1 := hmax l
      rw [hfa, hf l, if_pos hl] at h1
      exact ⟨EReal.coe_le_coe_iff.1 h1.1, fun hla => EReal.coe_lt_coe_iff.1 (h1.2 hla)⟩
    have halt : (hitAt j a).val < (j.val + 1) * 10000 := by rw [hitAt_val]; omega
    rw [hfa] at hbal hidx hxal
    rcases h with ⟨hno, hb⟩ | ⟨e, he, hYe, hbest, hb, hi, hx⟩
    · -- the first hit found
      refine .inr ⟨hitAt j a, halt, hYa, fun i hi hYi => ?_, ?_, ?_, fun r => ?_⟩
      · rcases hsplit i hi with hc | ⟨l, rfl⟩
        · exact absurd hYi (hno i hc)
        · exact ⟨(hblk l hYi).1, fun hl => (hblk l hYi).2 (by
            rw [Fin.lt_def, hitAt_val, hitAt_val] at hl
            exact Fin.lt_def.2 (by omega))⟩
      · rw [hbal, hb, max_eq_right (hlow _).le]
      · rw [hidx, hb, if_pos (hlow _)]
      · rw [hxal, hb, if_pos (.inl (hlow _))]
    · by_cases hlt : o e < o (hitAt j a)
      · -- a better one
        refine .inr ⟨hitAt j a, halt, hYa, fun i hi' hYi => ?_, ?_, ?_, fun r => ?_⟩
        · rcases hsplit i hi' with hc | ⟨l, rfl⟩
          · have := (hbest i hc hYi).1
            exact ⟨by linarith, fun _ => by linarith⟩
          · exact ⟨(hblk l hYi).1, fun hl => (hblk l hYi).2 (by
              rw [Fin.lt_def, hitAt_val, hitAt_val] at hl
              exact Fin.lt_def.2 (by omega))⟩
        · rw [hbal, hb, max_eq_right (EReal.coe_le_coe_iff.2 hlt.le)]
        · rw [hidx, hb, if_pos (EReal.coe_lt_coe_iff.2 hlt)]
        · rw [hxal, hb, if_pos (.inl (EReal.coe_lt_coe_iff.2 hlt))]
      · -- none better: on a tie the earlier one stays
        have hle : o (hitAt j a) ≤ o e := not_lt.1 hlt
        have hea : (e.val : ℝ) ≤ ((hitAt j a).val : ℝ) := by
          have : e.val ≤ (hitAt j a).val := by rw [hitAt_val]; omega
          exact_mod_cast this
        refine .inr ⟨e, he.trans_le (Nat.mul_le_mul_right _ (Nat.le_succ _)), hYe, fun i hi' hYi => ?_, ?_, ?_, fun r => ?_⟩
        · rcases hsplit i hi' with hc | ⟨l, rfl⟩
          · exact hbest i hc hYi
          · refine ⟨(hblk l hYi).1.trans hle, fun hl => ?_⟩
            rw [Fin.lt_def, hitAt_val] at hl
            omega
        · rw [hbal, hb, max_eq_left (EReal.coe_le_coe_iff.2 hle)]
        · rw [hidx, hb, hi, if_neg (not_lt.2 (EReal.coe_le_coe_iff.2 hle)), min_eq_left (EReal.coe_le_coe_iff.2 hea), ite_self]
        · rw [hxal, hb, hi, if_neg, hx]
          rintro (h1 | ⟨-, h1⟩)
          · exact absurd (EReal.coe_lt_coe_iff.1 h1) hlt
          · exact absurd (EReal.coe_lt_coe_iff.1 h1) (not_lt.2 hea)
  · -- the block has none: the choice stays
    have hno' : ∀ l, Y (hitAt j l) ≠ BitVec.ofNat 32 k.val := fun l hl => hyes ⟨l, hl⟩
    have hfa : f a = (neg : EReal) := by rw [hf, if_neg (hno' a)]
    rw [hfa] at hbal hidx hxal
    rcases h with ⟨hno, hb⟩ | ⟨e, he, hYe, hbest, hb, hi, hx⟩
    · refine .inl ⟨fun i hi => ?_, by rw [hbal, hb, max_self]⟩
      rcases hsplit i hi with hc | ⟨l, rfl⟩
      · exact hno i hc
      · exact hno' l
    · refine .inr ⟨e, he.trans_le (Nat.mul_le_mul_right _ (Nat.le_succ _)), hYe, fun i hi' hYi => ?_, ?_, ?_, fun r => ?_⟩
      · rcases hsplit i hi' with hc | ⟨l, rfl⟩
        · exact hbest i hc hYi
        · exact absurd hYi (hno' l)
      · rw [hbal, hb, max_eq_left (hlow _).le]
      · rw [hidx, hb, hi, if_neg (not_lt.2 (hlow _).le), if_neg (ne_of_lt (hlow _))]
      · rw [hxal, hb, if_neg, hx]
        rintro (h1 | ⟨h1, -⟩)
        · exact absurd h1 (not_lt.2 (hlow _).le)
        · exact absurd h1 (ne_of_lt (hlow _))

/-- After the last block, an instance without a hit takes hit 0: what is left is the chosen hit's score and embedding. -/
theorem chosen_final (ho : ∀ n, 0 ≤ o n) (k : Fin 128) (s : Car Ideal) (h : Chosen o X Y k 5 s) (of0 : Vec Ideal S128x1 .f32) (ox0 : Vec Ideal S1x32 .f32)
    (h0 : of0 (ix2 k 0) = (o 0 : EReal)) (hx0 : ∀ r, ox0 (ix2 0 r) = (X 0 r : EReal)) :
    ∃ a, IsAlpha o Y k a ∧ k0_pay12 s.2.2 of0 (ix2 k 0) = (o a : EReal) ∧ ∀ r, k0_pay13 s.2.2 ox0 s.1 (ix2 k r) = (X a r : EReal) := by
  have e12 : k0_pay12 s.2.2 of0 (ix2 k 0) = if s.2.2 (ix2 k 0) ≤ (negH : EReal) then of0 (ix2 k 0) else s.2.2 (ix2 k 0) := by
    rw [← w_negH]; pointwise [k0_pay12, k0_pay11]
  have e13 : ∀ r, k0_pay13 s.2.2 ox0 s.1 (ix2 k r) = if s.2.2 (ix2 k 0) ≤ (negH : EReal) then ox0 (ix2 0 r) else s.1 (ix2 k r) := fun r => by
    rw [← w_negH]; pointwise [k0_pay13, k0_pay11]
  rcases h with ⟨hno, hb⟩ | ⟨e, he, hYe, hbest, hb, hi, hx⟩
  · have hc : s.2.2 (ix2 k 0) ≤ (negH : EReal) := by rw [hb]; exact EReal.coe_le_coe_iff.2 neg_le
    exact ⟨0, .inl ⟨fun n => hno n (by omega), rfl⟩, by rw [e12, if_pos hc, h0], fun r => by rw [e13, if_pos hc, hx0]⟩
  · have hc : ¬ s.2.2 (ix2 k 0) ≤ (negH : EReal) := by
      rw [hb]; exact not_le.2 (EReal.coe_lt_coe_iff.2 (lt_of_lt_of_le negH_lt (ho e)))
    exact ⟨e, .inr ⟨hYe, fun n hn => hbest n (by omega) hn⟩, by rw [e12, if_neg hc, hb], fun r => by rw [e13, if_neg hc, hx]⟩

end Step

end Cert.Proof.KernelIdeal
-- ==== Proof.Potential.lean ====
/-
  The second phase over the extended reals, and what the launch leaves in its output: the condensation loss, where the blocks
  carry real scores and embeddings.
-/
module

public import proofs.«01_k».proof.Proof.Choice
public import proofs.«01_k».proof.Proof.Launch

@[expose] public section

set_option maxRecDepth 16384

noncomputable section

namespace Cert.Proof.KernelIdeal

open Cert.KernelIdeal Cert.KernelIdeal.Gen Cert.Proof.Model
open Idealize.ShloMosaic

/-- A sum over all hits is the sum over the blocks of the sums over their lanes. -/
theorem sum_hits (f : Fin 50000 → ℝ) : ∑ n, f n = ∑ j : Fin 5, ∑ l : Fin 10000, f (hitAt j l) := by
  rw [← Fintype.sum_prod_type']
  refine (Equiv.sum_comp (finProdFinEquiv (m := 5) (n := 10000)) f).symm.trans (Finset.sum_congr rfl fun p _ => congrArg f (Fin.ext ?_))
  rw [hitAt_val, finProdFinEquiv_apply_val, Nat.mul_comm, Nat.add_comm]

section Acc
variable {o : Fin 50000 → ℝ} {X : Fin 50000 → Fin 32 → ℝ} {Y : Fin 50000 → BitVec 32}

theorem r14 (v14 : FVec Ideal S1x10000 .f32) (v16 : IVec S1x10000 32) (v33 : FVec Ideal S128x1 .f32) (v37 : FVec Ideal S128x10000 .f32)
    (v40 : FVec Ideal S1x10000 .f32) (v41 : FVec Ideal S128x32 .f32) (v62 : Vec Ideal S128x1 .f32) (k : Fin 128) :
    k0_pay14 v14 v16 v33 v37 v40 v41 v62 (ix2 k 0)
      = v62 (ix2 k 0) + v33 (ix2 k 0) * ∑ l : Fin 10000, v14 (ix2 0 l) *
          Scalar.select (IntOp.cmpi CmpIPredicate.eq (v16 (ix2 0 l)) (BitVec.ofNat 32 k.val))
            (max (v40 (ix2 0 l) + (∑ r : Fin 32, v41 (ix2 k r)) - v37 (ix2 k l)) 0)
            (max (1 - Ideal.sqrt (max (v40 (ix2 0 l) + (∑ r : Fin 32, v41 (ix2 k r)) - v37 (ix2 k l)) 0)) 0) := by
  pointwise [k0_pay14]

/-- One block's potential, where everything it reads is real. -/
theorem acc_step (j : Fin 5) (ox : Vec Ideal S1x32x10000 .bf16) (x2 q : Vec Ideal S1x1x10000 .f32) (y : Vec Ideal S1x1x10000 .i32)
    (xal : Vec Ideal S128x32 .f32) (bal acc : Vec Ideal S128x1 .f32) (k : Fin 128) (a : Fin 50000) (A : ℝ)
    (hox : ∀ r l, ox (ix3 0 r l) = (X (hitAt j l) r : EReal))
    (hx2 : ∀ l, x2 (ix3 0 0 l) = ((∑ r, X (hitAt j l) r * X (hitAt j l) r : ℝ) : EReal))
    (hq : ∀ l, q (ix3 0 0 l) = (qf (o (hitAt j l)) : EReal)) (hy : ∀ l, y (ix3 0 0 l) = Y (hitAt j l))
    (hxal : ∀ r, xal (ix2 k r) = (X a r : EReal)) (hbal : bal (ix2 k 0) = (o a : EReal)) (hacc : acc (ix2 k 0) = (A : EReal)) :
    accStep ox x2 q y xal bal acc (ix2 k 0)
      = ((A + qf (o a) * ∑ l : Fin 10000, qf (o (hitAt j l)) * pot X Y k a (hitAt j l) : ℝ) : EReal) := by
  unfold accStep
  rw [r14, r37 bal k (o a) hbal, hacc, EReal.coe_add, EReal.coe_mul, ← coe_sum]
  refine congrArg (fun z : EReal => (A : EReal) + (qf (o a) : EReal) * z) (Finset.sum_congr rfl fun l _ => ?_)
  have e35 : k0_pay35 q (ix2 0 l) = q (ix3 0 0 l) := by pointwise [k0_pay35]
  have e36 : k0_pay36 (F := Ideal) y (ix2 0 l) = y (ix3 0 0 l) := by pointwise [k0_pay36]
  have e39 : k0_pay39 x2 (ix2 0 l) = x2 (ix3 0 0 l) := by pointwise [k0_pay39]
  have e40 : ∀ r, k0_pay40 xal (ix2 k r) = xal (ix2 k r) * xal (ix2 k r) := fun r => by pointwise [k0_pay40]
  have e38 : k0_pay38 ox xal (ix2 k l) = ((2 * ∑ r, X (hitAt j l) r * X a r : ℝ) : EReal) := by
    have e : k0_pay38 ox xal (ix2 k l) = ∑ r : Fin 32, Ideal.ofBits FTy.f32 0x40000000#32 * xal (ix2 k r) * ox (ix3 0 r l) := by pointwise [k0_pay38]
    rw [e, Finset.mul_sum, ← coe_sum]
    refine Finset.sum_congr rfl fun r _ => ?_
    rw [w_two, hxal, hox, ← EReal.coe_mul, ← EReal.coe_mul]
    congr 1
    ring
  have ed : max (k0_pay39 x2 (ix2 0 l) + (∑ r : Fin 32, k0_pay40 xal (ix2 k r)) - k0_pay38 ox xal (ix2 k l)) 0 = (d2 X a (hitAt j l) : EReal) := by
    rw [e39, hx2, e38, Finset.sum_congr rfl fun r _ => (e40 r).trans (by rw [hxal, ← EReal.coe_mul]), coe_sum, ← EReal.coe_add, ← EReal.coe_sub, max_coe_zero]
    rfl
  rw [ed, e35, hq, e36, hy, select_eq, sqrt_coe _ (d2_nonneg _ _ _), one_sub_coe, max_coe_zero, EReal.coe_mul]
  congr 1
  unfold pot
  split <;> rfl

/-- The output of a launch whose blocks carry real scores and embeddings. -/
theorem outV_eq (m : (b : Idealize.ShloMosaic.Loc nD τ sig) → Buf (Elt Ideal) b) (c : Dev nD) (ho : ∀ n, 0 ≤ o n)
    (hA : ∀ j : Fin 5, Carries o X Y j (xB m c (pA j)) (wB m c (pA j)) (bB m c (pA j)) (yB m c (pA j)))
    (hB : ∀ (j : Fin 5) l, yB m c (pB j) (ix3 0 0 l) = Y (hitAt j l)) :
    ∃ al : Fin 128 → Fin 50000, (∀ k, IsAlpha o Y k (al k)) ∧ outV m c (ix2 0 0) = (loss o X Y al : EReal) := by
  -- the running choice, block by block
  have hcar : ∀ (k : Fin 128) (n : ℕ), n ≤ 5 → Chosen o X Y k n (carN m c n) := fun k n => by
    induction n with
    | zero => exact fun _ => chosen_zero o X Y k
    | succ n ih =>
      intro hn
      have e := carN_succ m c ⟨n, by omega⟩
      dsimp only at e
      rw [e]
      exact chosen_step ho (hA ⟨n, by omega⟩) k _ (ih (by omega))
  have h0 : ∀ k : Fin 128, of0V m c (ix2 k 0) = (o 0 : EReal) := fun k => by
    have e : of0V m c (ix2 k 0) = k0_pay18 (xB m c (pA 0)) (wB m c (pA 0)) (bB m c (pA 0)) (ix2 0 0) := by
      unfold of0V first0
      pointwise [k0_pay4]
    rw [e, (hA 0).sc, show hitAt 0 0 = 0 from Fin.ext (by rw [hitAt_val]; rfl)]
  have hx0 : ∀ r : Fin 32, ox0V m c (ix2 0 r) = (X 0 r : EReal) := fun r => by
    have h19 : ∀ l, k0_pay30 (k0_pay19 (xB m c (pA 0)) (wB m c (pA 0)) (bB m c (pA 0))) (ix2 r l) = (X (hitAt 0 l) r : EReal) := fun l => by
      rw [← (hA 0).em r l]; pointwise [k0_pay30, k0_pay19]
    have h31 : ∀ l, k0_pay31 (k0_pay17 (xB m c (pA 0)) (wB m c (pA 0)) (bB m c (pA 0))) (k0_pay19 (xB m c (pA 0)) (wB m c (pA 0)) (bB m c (pA 0))) (ix2 r l) = 0 := fun l => by
      have e : k0_pay31 (k0_pay17 (xB m c (pA 0)) (wB m c (pA 0)) (bB m c (pA 0))) (k0_pay19 (xB m c (pA 0)) (wB m c (pA 0)) (bB m c (pA 0))) (ix2 r l)
          = k0_pay17 (xB m c (pA 0)) (wB m c (pA 0)) (bB m c (pA 0)) (ix2 r l) - k0_pay17 (xB m c (pA 0)) (wB m c (pA 0)) (bB m c (pA 0)) (ix2 r l) := by
        pointwise [k0_pay31, k0_pay30, k0_pay19]
      rw [e, (hA 0).em, ← EReal.coe_sub, sub_self, EReal.coe_zero]
    unfold ox0V firstX
    rw [first_pick _ _ r (fun l => X (hitAt 0 l) r) h19 h31, show hitAt 0 0 = 0 from Fin.ext (by rw [hitAt_val]; rfl)]
  choose al hal hbal hxal using fun k => chosen_final ho k (carN m c 5) (hcar k 5 le_rfl) (of0V m c) (ox0V m c) (h0 k) hx0
  refine ⟨al, hal, ?_⟩
  -- the potential, block by block
  have hacc : ∀ (k : Fin 128) (n : ℕ), n ≤ 5 → accN m c n (ix2 k 0)
      = ((∑ j ∈ (Finset.univ : Finset (Fin 5)).filter (fun j => j.val < n), qf (o (al k)) * ∑ l : Fin 10000, qf (o (hitAt j l)) * pot X Y k (al k) (hitAt j l) : ℝ) : EReal) := fun k n => by
    induction n with
    | zero =>
      intro _
      have e : (k0_pay34 (F := Ideal)) (ix2 k 0) = 0 := by pointwise [k0_pay34]
      refine e.trans ?_
      simp
    | succ n ih =>
      intro hn
      have e := accN_succ m c ⟨n, by omega⟩
      dsimp only at e
      have es : (Finset.univ : Finset (Fin 5)).filter (fun j => j.val < n + 1) = insert (⟨n, by omega⟩ : Fin 5) ((Finset.univ : Finset (Fin 5)).filter (fun j => j.val < n)) := by
        ext j
        simp only [Finset.mem_filter, Finset.mem_univ, true_and, Finset.mem_insert, Fin.ext_iff]
        omega
      rw [e, es, Finset.sum_insert (by simp), add_comm]
      have hC := hA ⟨n, by omega⟩
      refine acc_step ⟨n, by omega⟩ _ _ _ _ _ _ _ k (al k) _ (fun r l => ?_) (fun l => ?_) (fun l => ?_) (hB _) (hxal k) (hbal k) (ih (by omega))
      · unfold oxB; rw [r20, hC.em]
      · unfold x2B
        rw [r21, ← coe_sum]
        exact Finset.sum_congr rfl fun r _ => by rw [hC.em, EReal.coe_mul]
      · unfold qB; exact r23 _ _ _ l _ (hC.sc l)
  have hacc5 : ∀ k : Fin 128, accN m c 5 (ix2 k 0) = ((qf (o (al k)) * ∑ n, qf (o n) * pot X Y k (al k) n : ℝ) : EReal) := fun k => by
    rw [hacc k 5 le_rfl, Finset.filter_true_of_mem fun j _ => j.isLt, ← Finset.mul_sum, sum_hits]
  have e15 : outV m c (ix2 0 0) = Ideal.div (∑ k : Fin 128, ∑ _u : Fin 1, accN m c 5 (ix2 k 0)) (Ideal.ofBits .f32 0x47435000#32)
      + (1 - Ideal.div (∑ k : Fin 128, ∑ _u : Fin 1, balV m c (ix2 k 0)) (Ideal.ofBits .f32 0x43000000#32)) := by
    unfold outV
    pointwise [k0_pay15]
  have eb : ∀ k : Fin 128, balV m c (ix2 k 0) = (o (al k) : EReal) := hbal
  simp only [Fin.sum_univ_one, hacc5, eb, coe_sum] at e15
  rw [e15, w_hits, w_inst, div_coe _ _ (by norm_num), div_coe _ _ (by norm_num), one_sub_coe, ← EReal.coe_add]
  rfl

end Acc

end Cert.Proof.KernelIdeal
-- ==== Proof.Windows.lean ====
/-
  What the windows hold at each grid point, in terms of the arguments.
-/
module

public import proofs.«01_k».proof.Proof.Potential
public import Idealize.ShloMosaic.Lib.Pipeline.ValueKit
public import Idealize.ShloMosaic.Lib.Claim

@[expose] public section

set_option maxRecDepth 16384

noncomputable section

namespace Cert.Proof.KernelIdeal

open Cert.KernelIdeal Cert.KernelIdeal.Gen Cert.Proof.Model
open Idealize.ShloMosaic Idealize.ShloMosaic.TcCoe

/-- The block each window shows at each grid point. -/
theorem idx0 : ∀ t : Fin grid0.N, win0_0.index t = ![if t.val < 5 then t.val else 4, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val % 5, 0, 0] := by decide +kernel

section
variable (m : (b : Idealize.ShloMosaic.Loc nD τ sig) → Buf (Elt Ideal) b) (c : Dev nD)

theorem xB_at (j : Fin 5) (l : Fin 10000) (d : Fin 512) :
    xB m c (pA j) (ix2 l d) = m ((c : Thread nD τ).loc main_arg0) (ix2 (hitAt j l) d) := by
  have hv := hitAt_val j l
  have hj := j.isLt
  have hp : (pA j).val = j.val := rfl
  unfold xB
  blk_ext [iblk, V, idx0]
  rw [hp, if_pos hj, hv]

theorem V_w : V m c main_call0_v0 = concatenate S512x33 1 [⟨S512x32, m ((c : Thread nD τ).loc main_arg4)⟩, ⟨S512x1, m ((c : Thread nD τ).loc main_arg2)⟩] concatenates_S512x32_S512x1_S512x33_d1 := by
  simp only [V, V0, hostOps0, List.flatten_cons, List.flatten_nil, List.append_nil, StableHlo.TRef.binary, StableHlo.TRef.reshape, StableHlo.TRef.toBuf, StableHlo.TRef.ofBuf, cast_eq]
  after_results_simp <;> rfl
theorem V_b : V m c main_call0_v2 = shapeCast S33x1 (concatenate S33 0 [⟨S32, m ((c : Thread nD τ).loc main_arg5)⟩, ⟨S1, m ((c : Thread nD τ).loc main_arg3)⟩] concatenates_S32_S1_S33_d0) shapeCasts_S33_S33x1 := by
  simp only [V, V0, hostOps0, List.flatten_cons, List.flatten_nil, List.append_nil, StableHlo.TRef.binary, StableHlo.TRef.reshape, StableHlo.TRef.toBuf, StableHlo.TRef.ofBuf, cast_eq]
  after_results_simp <;> rfl
theorem V_y : V m c main_call0_v3 = shapeCast S5x1x10000 (m ((c : Thread nD τ).loc main_arg1)) shapeCasts_S50000_S5x1x10000 := by
  simp only [V, V0, hostOps0, List.flatten_cons, List.flatten_nil, List.append_nil, StableHlo.TRef.binary, StableHlo.TRef.reshape, StableHlo.TRef.toBuf, StableHlo.TRef.ofBuf, cast_eq]
  after_results_simp <;> rfl

theorem wB_v (t : Fin cfg0.N) (d : Fin 512) (r : Fin 33) :
    wB m c t (ix2 d r) = V m c main_call0_v0 (ix2 d r) := by
  unfold wB
  blk_ext [iblk, idx1]
/-- The first 32 columns of the weights are the embedding's, -/
theorem wB_lo (t : Fin cfg0.N) (d : Fin 512) (r : Fin 32) :
    wB m c t (ix2 d ⟨r.val, by omega⟩) = m ((c : Thread nD τ).loc main_arg4) (ix2 d r) := by
  rw [wB_v, V_w]
  pointwise
/-- and the last is the score's. -/
theorem wB_hi (t : Fin cfg0.N) (d : Fin 512) :
    wB m c t (ix2 d ⟨32, by omega⟩) = m ((c : Thread nD τ).loc main_arg2) (ix2 d 0) := by
  rw [wB_v, V_w]
  pointwise

theorem bB_v (t : Fin cfg0.N) (r : Fin 33) :
    bB m c t (ix2 r 0) = V m c main_call0_v2 (ix2 r 0) := by
  unfold bB
  blk_ext [iblk, idx2]
/-- So it is with the bias. -/
theorem bB_lo (t : Fin cfg0.N) (r : Fin 32) :
    bB m c t (ix2 ⟨r.val, by omega⟩ 0) = m ((c : Thread nD τ).loc main_arg5) (ix1 r) := by
  rw [bB_v, V_b]
  pointwise
theorem bB_hi (t : Fin cfg0.N) :
    bB m c t (ix2 ⟨32, by omega⟩ 0) = m ((c : Thread nD τ).loc main_arg3) (ix1 0) := by
  rw [bB_v, V_b]
  pointwise

/-- A row cut into equal blocks, read at a lane of a block. -/
theorem cut_at {α : Type} {N a b : ℕ} (v : (⟨1, ![N]⟩ : Shape).Idx → α) (h : (⟨1, ![N]⟩ : Shape).ShapeCasts ⟨3, ![a, 1, b]⟩)
    (j : Fin a) (l : Fin b) (n : Fin N) (hn : n.val = j.val * b + l.val) : shapeCast ⟨3, ![a, 1, b]⟩ v h (ix3 j 0 l) = v (ix1 n) := by
  refine shapeCast_apply v h _ _ ?_
  rw [Shape.rowMajor_val_one, Shape.rowMajor_val_three]
  show n.val = (j.val * 1 + 0) * b + l.val
  rw [hn, Nat.mul_one, Nat.add_zero]

theorem yB_v (t : Fin cfg0.N) (j : Fin 5) (l : Fin 10000) (ht : t.val % 5 = j.val) :
    yB m c t (ix3 0 0 l) = V m c main_call0_v3 (ix3 j 0 l) := by
  unfold yB
  blk_ext [iblk, idx3]
theorem yB_at (t : Fin cfg0.N) (j : Fin 5) (l : Fin 10000) (ht : t.val % 5 = j.val) :
    yB m c t (ix3 0 0 l) = m ((c : Thread nD τ).loc main_arg1) (ix1 (hitAt j l)) := by
  rw [yB_v m c t j l ht, V_y]
  exact cut_at _ _ j l _ (hitAt_val j l)

/-- The blocks of the first phase carry the scores, the embeddings and the instance ids of the arguments. -/
theorem carries (a0 : FVec Ideal S50000x512 .f32) (a1 : IVec S50000 32) (a2 : FVec Ideal S512x1 .f32) (a3 : FVec Ideal S1 .f32)
    (a4 : FVec Ideal S512x32 .f32) (a5 : FVec Ideal S32 .f32)
    (e0 : m ((c : Thread nD τ).loc main_arg0) = a0) (e1 : m ((c : Thread nD τ).loc main_arg1) = a1) (e2 : m ((c : Thread nD τ).loc main_arg2) = a2)
    (e3 : m ((c : Thread nD τ).loc main_arg3) = a3) (e4 : m ((c : Thread nD τ).loc main_arg4) = a4) (e5 : m ((c : Thread nD τ).loc main_arg5) = a5)
    (o : Fin 50000 → ℝ) (X : Fin 50000 → Fin 32 → ℝ)
    (ho : ∀ n, Ideal.div 1 (1 + Ideal.exp (-(∑ d : Fin 512, a0 (ix2 n d) * a2 (ix2 d 0) + a3 (ix1 0)))) = (o n : EReal))
    (hX : ∀ n r, ∑ d : Fin 512, a0 (ix2 n d) * a4 (ix2 d r) + a5 (ix1 r) = (X n r : EReal)) (j : Fin 5) :
    Carries o X (fun n => a1 (ix1 n)) j (xB m c (pA j)) (wB m c (pA j)) (bB m c (pA j)) (yB m c (pA j)) where
  sc l := by
    rw [r18, ← ho, bB_hi, e3, zero_sub]
    simp only [wB_hi, xB_at, e0, e2, mul_comm]
  em r l := by
    rw [r17, ← hX, bB_lo, e5]
    simp only [wB_lo, xB_at, e0, e4, mul_comm]
  id l := by
    rw [yB_at m c (pA j) j l (Nat.mod_eq_of_lt j.isLt), e1]
end

end Cert.Proof.KernelIdeal
-- ==== Proof.Result.lean ====
/-
  The kernel's result: the launch's output, scaled by the temperature and shifted by it.
-/
module

public import proofs.«01_k».proof.Proof.Windows

@[expose] public section

set_option maxRecDepth 16384

noncomputable section

namespace Cert.Proof.KernelIdeal

open Cert.KernelIdeal Cert.KernelIdeal.Gen Cert.Proof.Model
open Idealize.ShloMosaic Idealize.ShloMosaic.TcCoe Idealize.SL.Sem
open Idealize.ShloMosaic.Pipeline (Dat)

variable (m : (b : Idealize.ShloMosaic.Loc nD τ sig) → Buf (Elt Ideal) b) (ρ : Dev nD → PrngReg)

/-- The launch's output array ends holding the loss. -/
theorem out_arr (c : Dev nD) : (dats m 0 c).arrAt 4 cfg0.N = outV m c := by
  refine (dats m 0 c).arrAt_eq_of_after_last 4 t0_9 (by decide +kernel) _ fun j => ?_
  blk_simp
  rw [after0_4]

/-- The operations after the launch. -/
def kRes (t : FVec Ideal S_ .f32) (v : FVec Ideal S1x1 .f32) : FVec Ideal S_ .f32 :=
  addf (mulf (Host.exp (Host.negf t)) (shapeCast S_ v shapeCasts_S1x1_S_)) t

theorem kRes_at (t : FVec Ideal S_ .f32) (v : FVec Ideal S1x1 .f32) : kRes t v ix0 = Ideal.exp (-(t ix0)) * v (ix2 0 0) + t ix0 := by
  pointwise [kRes]

theorem W_main_v0 (c : Dev nD) :
    Pipeline.afterTail₀ cfgs (dats m) 0 (V0 m) [hostOps1] c main_v0 = kRes (m ((c : Thread nD τ).loc main_arg6)) (outV m c) := by
  have h4 : Pipeline.withArrays (cfgs 0).spec c (V0 m c) (fun w => (dats m 0 c).arrAt w (cfgs 0).N) (Proc.devRef .tc main_call0_v4) = outV m c :=
    (Pipeline.withArrays_arr spec0 (by decide) c _ _ 4).trans (out_arr m c)
  have h6 : Pipeline.withArrays (cfgs 0).spec c (V0 m c) (fun w => (dats m 0 c).arrAt w (cfgs 0).N) (Proc.devRef .tc main_arg6) = m ((c : Thread nD τ).loc main_arg6) :=
    (Pipeline.withArrays_of_ne spec0 c _ _ main_arg6 (by exact (by decide : ∀ w, Pipeline.arrRef spec0 w ≠ main_arg6))).trans (V_main_arg6 m c)
  unfold Pipeline.afterTail₀
  simp only [hostOps1, List.flatten_cons, List.flatten_nil, List.append_nil, StableHlo.TRef.unary, StableHlo.TRef.binary, StableHlo.TRef.reshape, StableHlo.TRef.toBuf, StableHlo.TRef.ofBuf, cast_eq]
  after_results_simp
  rw [h4, h6]
  rfl

/-- The run: the result is that, and the arguments end as launched. -/
theorem run : θ_run defs (onTc (τ := τ) (main (F := Ideal))) ⟨m, fun _ => 0, ρ⟩ (fun r => ∀ c : Dev nD,
      r.2.mem ((c.tc : Thread nD τ).loc main_v0) = kRes (m ((c : Thread nD τ).loc main_arg6)) (outV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).2 main_v0 (Pipeline.mem_restRefs_of main_v0 (by decide) (by decide))).trans (W_main_v0 m c), h.2.1 c⟩)
    (θ_run_and (run_main m ρ) (frame m ρ))

end Cert.Proof.KernelIdeal
-- ==== Proof.RefArg.lean ====
/-
  The reference's choice of a hit for every instance: the first of the instance's hits with the largest score.
-/
module

public import proofs.«01_k».proof.Proof.RefRun
public import proofs.«01_k».proof.Proof.Model
public import Idealize.ShloMosaic.Lib.Pointwise

@[expose] public section

set_option maxRecDepth 16384

noncomputable section

namespace Cert.Proof.Ref

open Cert.ReferenceIdeal Cert.ReferenceIdeal.Gen Cert.Proof.Model
open Idealize.ShloMosaic

/-! ## The reduction -/

/-- The reduction keeps the larger value, and of equal values the one with the smaller number. -/
theorem red_eq (a b : Ideal .f32 × BitVec 32) :
    reducer_argmax_f32_i32 (F := Ideal) a b
      = if (b.1 : EReal) < a.1 ∨ ((a.1 : EReal) = b.1 ∧ a.2.toInt < b.2.toInt) then a else b := by
  obtain ⟨a1, a2⟩ := a
  obtain ⟨b1, b2⟩ := b
  change EReal at a1 b1
  unfold reducer_argmax_f32_i32
  simp only [Ideal.cmpf_def, Ideal.cmp, IntOp.cmpi, BitVec.slt, Scalar.select, IntOp.ori, IntOp.andi]
  by_cases h1 : b1 < a1 <;> by_cases h2 : a1 = b1 <;> by_cases h3 : a2.toInt < b2.toInt <;>
    simp [h1, h2, h3]

/-- Folding it over a list keeps one of the pairs, and none of the others is better. -/
theorem fold_red (L : List (Ideal .f32 × BitVec 32)) : ∀ i : Ideal .f32 × BitVec 32,
    (L.foldl (reducer_argmax_f32_i32 (F := Ideal)) i = i ∨ L.foldl (reducer_argmax_f32_i32 (F := Ideal)) i ∈ L)
      ∧ ∀ q, (q = i ∨ q ∈ L) → (q.1 : EReal) ≤ (L.foldl (reducer_argmax_f32_i32 (F := Ideal)) i).1
          ∧ ((q.1 : EReal) = (L.foldl (reducer_argmax_f32_i32 (F := Ideal)) i).1 → (L.foldl (reducer_argmax_f32_i32 (F := Ideal)) i).2.toInt ≤ q.2.toInt) := by
  induction L with
  | nil => exact fun i => ⟨.inl rfl, fun q hq => by
      rcases hq with rfl | hq
      · exact ⟨le_refl _, fun _ => le_refl _⟩
      · exact absurd hq List.not_mem_nil⟩
  | cons b L ih =>
    intro i
    rw [List.foldl_cons]
    obtain ⟨hm, hq⟩ := ih (reducer_argmax_f32_i32 (F := Ideal) i b)
    generalize L.foldl (reducer_argmax_f32_i32 (F := Ideal)) (reducer_argmax_f32_i32 (F := Ideal) i b) = p at hm hq ⊢
    have hs := hq _ (.inl rfl)
    have e := red_eq i b
    -- both pairs just compared are no better than the one kept
    have key : ∀ q, q = i ∨ q = b → (q.1 : EReal) ≤ (reducer_argmax_f32_i32 (F := Ideal) i b).1
        ∧ ((q.1 : EReal) = (reducer_argmax_f32_i32 (F := Ideal) i b).1 → (reducer_argmax_f32_i32 (F := Ideal) i b).2.toInt ≤ q.2.toInt) := by
      intro q hq
      rw [e]
      split <;> rename_i h
      · rcases hq with rfl | rfl
        · exact ⟨le_refl _, fun _ => le_refl _⟩
        · rcases h with h | ⟨h, h'⟩
          · exact ⟨h.le, fun hh => absurd hh h.ne⟩
          · exact ⟨h.ge, fun _ => h'.le⟩
      · rw [not_or, not_lt, not_and, not_lt] at h
        rcases hq with rfl | rfl
        · exact ⟨h.1, fun hh => h.2 hh⟩
        · exact ⟨le_refl _, fun _ => le_refl _⟩
    have trans : ∀ q, q = i ∨ q = b → (q.1 : EReal) ≤ p.1 ∧ ((q.1 : EReal) = p.1 → p.2.toInt ≤ q.2.toInt) := by
      intro q hq
      obtain ⟨k1, k2⟩ := key q hq
      refine ⟨k1.trans hs.1, fun hh => ?_⟩
      have e1 : (q.1 : EReal) = (reducer_argmax_f32_i32 (F := Ideal) i b).1 := le_antisymm k1 (hh ▸ hs.1)
      exact (hs.2 (e1.symm.trans hh)).trans (k2 e1)
    refine ⟨?_, fun q hq' => ?_⟩
    · rcases hm with hm | hm
      · rw [e] at hm
        split at hm
        · exact .inl hm
        · exact .inr (hm ▸ List.mem_cons_self)
      · exact .inr (List.mem_cons_of_mem _ hm)
    · rcases hq' with h | h
      · exact trans q (.inl h)
      · rcases List.mem_cons.1 h with h | h
        · exact trans q (.inr h)
        · exact hq q (.inr h)

/-- A pair is on a fiber when it is an index's that drops to it. -/
theorem mem_fiber {α β : Type} {s t : Shape} {axes : List (Fin s.rank)} (x : s.Idx → α) (y : s.Idx → β) (h : s.ReducesTo axes t) (j : t.Idx) (p : α × β) :
    p ∈ Host.argReduceFiber x y h j ↔ ∃ i, h.drop i = j ∧ (x i, y i) = p := by
  unfold Host.argReduceFiber
  rw [List.mem_map]
  constructor
  · rintro ⟨n, hn, rfl⟩
    exact ⟨_, of_decide_eq_true (List.mem_filter.1 hn).2, rfl⟩
  · rintro ⟨i, hi, rfl⟩
    exact ⟨s.rowMajor i, List.mem_filter.2 ⟨List.mem_finRange _, decide_eq_true (by rw [Equiv.symm_apply_apply]; exact hi)⟩, by rw [Equiv.symm_apply_apply]⟩

/-- What the reduction leaves at an index is one of the pairs that drop there, or the first pair, and none of them is better. -/
theorem argmax_spec {s t u : Shape} {axes : List (Fin s.rank)} (x : FVec Ideal s .f32) (y : IVec s 32) (ix : FVec Ideal u .f32) (iy : IVec u 32)
    (h : s.ReducesTo axes t) (hu : 0 < u.numel) (j : t.Idx) :
    ∃ p : Ideal .f32 × BitVec 32, Host.argReduce (reducer_argmax_f32_i32 (F := Ideal)) x y ix iy h hu j = p
      ∧ (p = (ix (Shape.Idx.first hu), iy (Shape.Idx.first hu)) ∨ ∃ i, h.drop i = j ∧ p = (x i, y i))
      ∧ (∀ i, h.drop i = j → (x i : EReal) ≤ p.1 ∧ ((x i : EReal) = p.1 → p.2.toInt ≤ (y i).toInt))
      ∧ ((ix (Shape.Idx.first hu) : EReal) = p.1 → p.2.toInt ≤ (iy (Shape.Idx.first hu)).toInt) := by
  rw [Ideal.argReduce_eq_reduce2, Host.reduce2_eq_foldl_fiber]
  obtain ⟨hm, hq⟩ := fold_red (Host.argReduceFiber x y h j) (ix (Shape.Idx.first hu), iy (Shape.Idx.first hu))
  refine ⟨_, rfl, ?_, fun i hi => hq _ (.inr ((mem_fiber _ _ _ _ _).2 ⟨i, hi, rfl⟩)), (hq _ (.inl rfl)).2⟩
  rcases hm with hm | hm
  · exact .inl hm
  · obtain ⟨i, hi, he⟩ := (mem_fiber _ _ _ _ _).1 hm
    exact .inr ⟨i, hi, he.symm⟩

/-- Dropping the rows of a table keeps the column. -/
theorem drop_rows (h : S50000x128.ReducesTo [0] S128) (n : Fin 50000) (k : Fin 128) : h.drop (ix2 n k) = ix1 k := by
  funext c
  have hc : c = 0 := Subsingleton.elim _ _
  subst hc
  exact Fin.ext (h.drop_apply_val_of_eq (ix2 n k) 0 1)

/-! ## What the reduction reads -/

theorem mask_at (y : Vec Ideal S50000 .i32) (n : Fin 50000) (k : Fin 128) :
    rMask (F := Ideal) y (ix2 n k) = if y (ix1 n) = BitVec.ofNat 32 k.val then (1 : EReal) else 0 := by
  pointwise [rMask]
  have u : ∀ b : BitVec 1, FloatOps.uitofp (F := Ideal) FTy.f32 b = ((b.toNat : ℝ) : EReal) := fun _ => rfl
  rw [u]
  by_cases h : y (ix1 n) = BitVec.ofNat 32 k.val
  · rw [if_pos h, h]; simp [IntOp.cmpi]
  · rw [if_neg h]; simp [IntOp.cmpi, beq_false_of_ne h]

theorem col_at (of : Vec Ideal S50000 .f32) (y : Vec Ideal S50000 .i32) (n : Fin 50000) (k : Fin 128) :
    rCol of y (ix2 n k) = if y (ix1 n) = BitVec.ofNat 32 k.val then (of (ix1 n) : EReal) else ⊥ := by
  pointwise [rCol]
  rw [mask_at, show id (constant (F := Ideal) S_ FTy.f32 4286578688#32) ix0 = (⊥ : EReal) from w_bot]
  by_cases h : y (ix1 n) = BitVec.ofNat 32 k.val
  · simp only [if_pos h]; exact if_pos zero_lt_one
  · simp only [if_neg h]; exact if_neg (lt_irrefl _)

theorem toInt_hit (n : Fin 50000) : (BitVec.ofNat 32 n.val).toInt = n.val := by
  have := n.isLt
  rw [BitVec.toInt_eq_toNat_of_lt (by rw [BitVec.toNat_ofNat]; omega), BitVec.toNat_ofNat]
  omega

theorem hit_at (n : Fin 50000) (k : Fin 128) : iotaInDim S50000x128 32 0 (ix2 n k) = BitVec.ofNat 32 n.val := by
  pointwise

/-! ## The choice -/

/-- A list of numbers read off a list of pairs. -/
theorem snd_of {ι A B : Type} (f : ι → B) (g : ι → A × B) (h : f = fun j => (g j).2) (j : ι) (p : A × B) (hp : g j = p) : f j = p.2 := by
  subst h hp; rfl

/-- The choice, as a function of the instance. -/
theorem rBest_fn (of : Vec Ideal S50000 .f32) (y : Vec Ideal S50000 .i32) :
    rBest of y = fun j => (Host.argReduce (reducer_argmax_f32_i32 (F := Ideal)) (rCol of y) (iotaInDim S50000x128 32 0) (constant (F := Ideal) S_ .f32 0xFF800000#32)
      (constantI S_ 32 0#32) reducesTo_S50000x128_S128_d0 h_S_ j).2 := by
  delta rBest
  exact Eq.refl _

/-- The reduction at an instance, hit by hit. -/
theorem best_spec (of : Vec Ideal S50000 .f32) (y : Vec Ideal S50000 .i32) (k : Fin 128) :
    ∃ p : Ideal .f32 × BitVec 32, rBest of y (ix1 k) = p.2
      ∧ (p = ((⊥ : EReal), 0#32) ∨ ∃ a : Fin 50000, p = (rCol of y (ix2 a k), BitVec.ofNat 32 a.val))
      ∧ (∀ n : Fin 50000, (rCol of y (ix2 n k) : EReal) ≤ p.1 ∧ ((rCol of y (ix2 n k) : EReal) = p.1 → p.2.toInt ≤ (BitVec.ofNat 32 n.val).toInt))
      ∧ ((⊥ : EReal) = p.1 → p.2.toInt ≤ (0#32).toInt) := by
  obtain ⟨p, hp, hm, hq, h0⟩ := argmax_spec (rCol of y) (iotaInDim S50000x128 32 0) (constant (F := Ideal) S_ .f32 0xFF800000#32) (constantI S_ 32 0#32)
    reducesTo_S50000x128_S128_d0 h_S_ (ix1 k)
  have hb : (constant (F := Ideal) S_ .f32 0xFF800000#32 (Shape.Idx.first h_S_) : EReal) = ⊥ := w_bot
  have hc : constantI S_ 32 0#32 (Shape.Idx.first h_S_) = 0#32 := rfl
  rw [hb, hc] at hm h0
  refine ⟨p, snd_of _ _ (rBest_fn of y) _ _ hp, ?_, fun n => ?_, h0⟩
  · rcases hm with h | ⟨i, hd, h⟩
    · exact .inl h
    · have hk : i 1 = k := by
        have e := reducesTo_S50000x128_S128_d0.drop_apply_val_of_eq i 0 1
        rw [hd] at e
        exact Fin.ext e.symm
      have ei : ∃ n : Fin 50000, i = ix2 n k := ⟨i 0, by
        funext c
        match c with
        | ⟨0, _⟩ => rfl
        | ⟨1, _⟩ => exact hk⟩
      obtain ⟨n, rfl⟩ := ei
      exact .inr ⟨n, by rw [h, hit_at]⟩
  · rw [← hit_at n k]
    exact hq _ (drop_rows _ n k)

/-- The chosen hit is the first of the instance's hits with the largest score, or hit 0 if there is none. -/
theorem best_at (of : Vec Ideal S50000 .f32) (y : Vec Ideal S50000 .i32) (o : Fin 50000 → ℝ) (ho : ∀ n, of (ix1 n) = (o n : EReal)) (k : Fin 128) :
    ∃ a : Fin 50000, IsAlpha o (fun n => y (ix1 n)) k a ∧ rBest of y (ix1 k) = BitVec.ofNat 32 a.val := by
  obtain ⟨p, hb, hp, hqn, hq0⟩ := best_spec of y k
  rw [hb]
  by_cases hex : ∃ n, y (ix1 n) = BitVec.ofNat 32 k.val
  · obtain ⟨n, hn⟩ := hex
    have hgt : (⊥ : EReal) < p.1 := by
      refine lt_of_lt_of_le ?_ (hqn n).1
      rw [col_at, if_pos hn, ho]
      exact EReal.bot_lt_coe _
    rcases hp with hp | ⟨a, hp⟩
    · exact absurd (by rw [hp]) hgt.ne'
    · have ha : y (ix1 a) = BitVec.ofNat 32 k.val := by
        by_contra h
        rw [hp, col_at, if_neg h] at hgt
        exact lt_irrefl _ hgt
      refine ⟨a, .inr ⟨ha, fun n hn => ?_⟩, by rw [hp]⟩
      have h := hqn n
      rw [hp] at h
      dsimp only at h
      rw [col_at, col_at, if_pos hn, if_pos ha, ho, ho, toInt_hit, toInt_hit, EReal.coe_le_coe_iff] at h
      refine ⟨h.1, fun hlt => lt_of_le_of_ne h.1 fun he => ?_⟩
      have h2 := h.2 (by rw [he])
      have h3 : n.val < a.val := hlt
      omega
  · have hno : ∀ n, y (ix1 n) ≠ BitVec.ofNat 32 k.val := fun n h => hex ⟨n, h⟩
    refine ⟨0, .inl ⟨hno, rfl⟩, ?_⟩
    rcases hp with hp | ⟨a, hp⟩
    · rw [hp]; rfl
    · have hb : p.1 = (⊥ : EReal) := by rw [hp]; dsimp only; rw [col_at, if_neg (hno a)]
      have h2 := hq0 hb.symm
      rw [hp] at h2 ⊢
      dsimp only at h2 ⊢
      rw [toInt_hit] at h2
      have h3 : (0#32).toInt = 0 := by decide
      rw [h3] at h2
      have h4 : a = 0 := Fin.ext (by show a.val = 0; omega)
      rw [h4]

end Cert.Proof.Ref
-- ==== Proof.RefVal.lean ====
/-
  The reference's result over the extended reals: the condensation loss, scaled by the temperature and shifted by it.
-/
module

public import proofs.«01_k».proof.Proof.RefArg
public import Idealize.ShloMosaic.Lib.Routing.Ops
public import Idealize.ShloMosaic.Lib.Routing.OpsSet

@[expose] public section

set_option maxRecDepth 16384

noncomputable section

namespace Cert.Proof.Ref

open Cert.ReferenceIdeal Cert.ReferenceIdeal.Gen Cert.Proof.Model
open Idealize.ShloMosaic

theorem slt_zero {v : BitVec 32} (h : 0 ≤ v.toInt) : IntOp.cmpi .slt v 0#32 = 0#1 := by
  have hn : ¬ v.toInt < (0#32).toInt := by rw [show (0#32).toInt = 0 by decide]; omega
  unfold IntOp.cmpi BitVec.slt
  rw [decide_eq_false hn]; rfl

theorem sum_zeros {ι : Type} (s : Finset ι) : Finset.fold IntOp.addi 0#32 (fun _ => BitVec.setWidth 32 0#1) s = 0#32 := by
  classical
  refine Finset.induction_on s rfl fun a s ha ih => ?_
  rw [Finset.fold_insert ha, ih]; rfl

theorem k0_at (w : BitVec 32) : id (constant (F := Ideal) S_ FTy.f32 w) ix0 = Ideal.ofBits .f32 w := rfl
theorem w_zero : Ideal.ofBits .f32 0#32 = (0 : EReal) := by simp [Ideal.ofBits, Ideal.ieee]

/-! ## The chosen rows -/

/-- A chosen hit's number is the row it names. -/
theorem row_at (r : Vec Ideal S128 .i32) (k : Fin 128) (a : Fin 50000) (h : r (ix1 k) = BitVec.ofNat 32 a.val) :
    rRow (F := Ideal) r (ix2 k 0) = BitVec.ofNat 32 a.val := by
  pointwise [rRow]
  rw [h]
  rw [slt_zero (by rw [toInt_hit]; omega)]
  rfl

theorem xa_at (ox : Vec Ideal S50000x32 .f32) (r : Vec Ideal S128x1 .i32) (k : Fin 128) (a : Fin 50000) (h : r (ix2 k 0) = BitVec.ofNat 32 a.val) (d : Fin 32) :
    rXa ox r (ix2 k d) = ox (ix2 a d) := by
  unfold rXa
  simp only [ix2_eq_valueIdx] at h ⊢
  exact Routing.gather_row _ rfl rfl rfl rfl rfl ox r k d a h (by norm_num)

theorem pick_at (v : Vec Ideal S50000 .f32) (r : Vec Ideal S128x1 .i32) (k : Fin 128) (a : Fin 50000) (h : r (ix2 k 0) = BitVec.ofNat 32 a.val) :
    rPick v r (ix1 k) = v (ix1 a) := by
  unfold rPick
  simp only [ix1_eq_valueIdx, ix2_eq_valueIdx] at h ⊢
  exact Routing.gather_take1 _ rfl rfl rfl rfl v r k a h (by norm_num)

/-! ## The pieces -/

section
variable (o : Fin 50000 → ℝ) (X : Fin 50000 → Fin 32 → ℝ)

theorem q_at (of : Vec Ideal S50000 .f32) (ho : ∀ n, of (ix1 n) = (o n : EReal)) (n : Fin 50000) : rQ of (ix1 n) = (qf (o n) : EReal) := by
  pointwise [rQ]
  rw [ho, k0_at, k0_at, w_zero]
  exact charge_atanh (o n)

theorem d2_at (ox : Vec Ideal S50000x32 .f32) (xa : Vec Ideal S128x32 .f32) (a : Fin 50000) (k : Fin 128)
    (hx : ∀ n r, ox (ix2 n r) = (X n r : EReal)) (ha : ∀ r, xa (ix2 k r) = (X a r : EReal)) (n : Fin 50000) :
    rD2 ox xa (ix2 n k) = (d2 X a n : EReal) := by
  pointwise [rD2]
  simp only [hx, ha, ← EReal.coe_mul, coe_sum]
  rw [← EReal.coe_add, w_two, ← EReal.coe_mul, ← EReal.coe_sub, max_coe_zero, d2]

theorem qq_at (q : Vec Ideal S50000 .f32) (qa : Vec Ideal S128 .f32) (n : Fin 50000) (k : Fin 128) (b c : ℝ) (hb : q (ix1 n) = (b : EReal)) (hc : qa (ix1 k) = (c : EReal)) :
    rQQ q qa (ix2 n k) = ((b * c : ℝ) : EReal) := by
  pointwise [rQQ]
  rw [hb, hc, EReal.coe_mul]

/-- The attraction and the repulsion together: every hit's potential of every instance. -/
theorem pairs_at (y : Vec Ideal S50000 .i32) (dd qq : Vec Ideal S50000x128 .f32) (al : Fin 128 → Fin 50000) (q : Fin 50000 → ℝ)
    (hd : ∀ n k, dd (ix2 n k) = (d2 X (al k) n : EReal)) (hq : ∀ n k, qq (ix2 n k) = ((q n * q (al k) : ℝ) : EReal)) :
    rAtt y dd qq ix0 + rRep y dd qq ix0 = ((∑ k, q (al k) * ∑ n, q n * pot X (fun n => y (ix1 n)) k (al k) n : ℝ) : EReal) := by
  have hA : rAtt y dd qq ix0 = ((∑ n : Fin 50000, ∑ k : Fin 128, (if y (ix1 n) = BitVec.ofNat 32 k.val then d2 X (al k) n * (q n * q (al k)) else 0) : ℝ) : EReal) := by
    pointwise [rAtt]
    simp only [← coe_sum]
    refine Finset.sum_congr rfl fun n _ => Finset.sum_congr rfl fun k _ => ?_
    rw [mask_at, hd, hq]
    split
    · rw [one_mul]; simp only [EReal.coe_mul]
    · rw [zero_mul, zero_mul, EReal.coe_zero]
  have hR : rRep y dd qq ix0 = ((∑ n : Fin 50000, ∑ k : Fin 128, (if y (ix1 n) = BitVec.ofNat 32 k.val then 0 else max (1 - Real.sqrt (d2 X (al k) n)) 0 * (q n * q (al k))) : ℝ) : EReal) := by
    pointwise [rRep]
    simp only [← coe_sum]
    refine Finset.sum_congr rfl fun n _ => Finset.sum_congr rfl fun k _ => ?_
    rw [mask_at, hd, hq, sqrt_coe _ (d2_nonneg X (al k) n), one_sub_coe, max_coe_zero]
    split
    · rw [show (1 : EReal) - 1 = 0 from by rw [← EReal.coe_one, ← EReal.coe_sub, sub_self, EReal.coe_zero], zero_mul, zero_mul, EReal.coe_zero]
    · rw [sub_zero, one_mul]; simp only [EReal.coe_mul]
  rw [hA, hR, ← EReal.coe_add]
  refine congrArg _ ?_
  rw [← Finset.sum_add_distrib, Finset.sum_congr rfl fun n _ => Finset.sum_add_distrib.symm, Finset.sum_comm]
  refine Finset.sum_congr rfl fun k _ => ?_
  rw [Finset.mul_sum]
  refine Finset.sum_congr rfl fun n _ => ?_
  unfold pot
  split <;> ring

theorem noise_at (of : Vec Ideal S50000 .f32) (y : Vec Ideal S50000 .i32) (hy : ∀ n, 0 ≤ (y (ix1 n)).toInt) : rNoise of y ix0 = (0 : EReal) := by
  have h0 : rNumNoise (F := Ideal) y ix0 = 0#32 := by
    pointwise [rNumNoise, rIsNoise]
    simp only [slt_zero (hy _)]
    exact sum_zeros _
  pointwise [rNoise]
  rw [h0, k0_at, w_zero]
  rfl

theorem beta_at (ba : Vec Ideal S128 .f32) (b : Fin 128 → ℝ) (hb : ∀ k, ba (ix1 k) = (b k : EReal)) : rBeta ba ix0 = ((1 - (∑ k, b k) / 128 : ℝ) : EReal) := by
  pointwise [rBeta]
  simp only [hb, one_sub_coe, coe_sum]
  rw [w_inst, div_coe _ _ (by norm_num), Finset.sum_sub_distrib]
  refine congrArg _ ?_
  simp
  ring

/-- The loss. -/
theorem loss_at (of : Vec Ideal S50000 .f32) (ox : Vec Ideal S50000x32 .f32) (y : Vec Ideal S50000 .i32) (ho : ∀ n, of (ix1 n) = (o n : EReal))
    (hx : ∀ n r, ox (ix2 n r) = (X n r : EReal)) (hy : ∀ n, 0 ≤ (y (ix1 n)).toInt) :
    ∃ al : Fin 128 → Fin 50000, (∀ k, IsAlpha o (fun n => y (ix1 n)) k (al k)) ∧ rLoss of ox y ix0 = (loss o X (fun n => y (ix1 n)) al : EReal) := by
  choose al hal hbest using best_at of y o ho
  refine ⟨al, hal, ?_⟩
  have hrow := fun k => row_at (rBest of y) k (al k) (hbest k)
  unfold rLoss
  generalize rRow (F := Ideal) (rBest of y) = row at hrow ⊢
  have hp := pairs_at X y (rD2 ox (rXa ox row)) (rQQ (rQ of) (rPick (rQ of) row)) al (fun n => qf (o n))
    (fun n k => d2_at X ox _ (al k) k hx (fun r => (xa_at ox row k (al k) (hrow k) r).trans (hx _ r)) n)
    (fun n k => qq_at _ _ n k _ _ (q_at o of ho n) ((pick_at _ row k (al k) (hrow k)).trans (q_at o of ho _)))
  have hbt := beta_at (rPick of row) (fun k => o (al k)) fun k => (pick_at of row k (al k) (hrow k)).trans (ho _)
  have hn := noise_at of y hy
  pointwise
  rw [hp, hbt, hn, w_hits, div_coe _ _ (by norm_num), add_zero, ← EReal.coe_add, loss]

end

/-- The result. -/
theorem res_at (x : Vec Ideal S50000x512 .f32) (y : Vec Ideal S50000 .i32) (bw : Vec Ideal S512x1 .f32) (bb : Vec Ideal S1 .f32) (cw : Vec Ideal S512x32 .f32)
    (cb : Vec Ideal S32 .f32) (t : Vec Ideal S_ .f32) :
    rRes x y bw bb cw cb t ix0 = Ideal.exp (-(t ix0 : EReal)) * rLoss (rOf x bw bb) (rOx x cw cb) y ix0 + t ix0 := by
  pointwise [rRes]

theorem of_at (x : Vec Ideal S50000x512 .f32) (bw : Vec Ideal S512x1 .f32) (bb : Vec Ideal S1 .f32) (n : Fin 50000) :
    rOf x bw bb (ix1 n) = Ideal.div 1 (1 + Ideal.exp (-(∑ d : Fin 512, (x (ix2 n d) : EReal) * bw (ix2 d 0) + bb (ix1 0)))) := by
  pointwise [rOf]

theorem ox_at (x : Vec Ideal S50000x512 .f32) (cw : Vec Ideal S512x32 .f32) (cb : Vec Ideal S32 .f32) (n : Fin 50000) (r : Fin 32) :
    rOx x cw cb (ix2 n r) = ∑ d : Fin 512, (x (ix2 n d) : EReal) * cw (ix2 d r) + cb (ix1 r) := by
  pointwise [rOx]

end Cert.Proof.Ref
-- ==== Proof.Agree.lean ====
/-
  The kernel and the reference leave the same result, where the rows, the embedding's weights and its bias are finite and no
  instance id is negative.
-/
module

public import proofs.«01_k».proof.Defs
public import proofs.«01_k».proof.Proof.Result
public import proofs.«01_k».proof.Proof.RefVal

@[expose] public section

set_option maxRecDepth 16384

noncomputable section

namespace Cert.Proof

open Idealize.ShloMosaic Idealize.ShloMosaic.TcCoe Idealize.SL.Sem Cert.Proof.Model

/-- The shape facts the precondition names. -/
theorem pre_facts : Cert.Pre_finite_hits.Facts := ⟨by decide, by decide, by decide, by decide⟩

section
variable (a0 : FVec Ideal Cert.ReferenceIdeal.S50000x512 .f32) (a1 : IVec Cert.ReferenceIdeal.S50000 32) (a2 : FVec Ideal Cert.ReferenceIdeal.S512x1 .f32)
    (a3 : FVec Ideal Cert.ReferenceIdeal.S1 .f32) (a4 : FVec Ideal Cert.ReferenceIdeal.S512x32 .f32) (a5 : FVec Ideal Cert.ReferenceIdeal.S32 .f32)
    (a6 : FVec Ideal Cert.ReferenceIdeal.S_ .f32)

theorem w_top : Ideal.ofBits .f32 0x7F800000#32 = ⊤ := by simp [Ideal.ofBits, Ideal.ieee]

/-- A comparison that holds is a fact. -/
theorem of_holds {p : Prop} [Decidable p] (h : BitVec.ofBool (decide p) = 1#1) : p := by
  by_contra hn
  rw [decide_eq_false hn] at h
  exact absurd h (by decide)

/-- What the precondition says, element by element. -/
theorem pre_reads [Cert.Pre_finite_hits.Facts]
    (h0 : (Cert.Pre_finite_hits.fn (F := Ideal) a0 a1 a2 a3 a4 a5 a6).1 = fun _ => 1#1)
    (h1 : (Cert.Pre_finite_hits.fn (F := Ideal) a0 a1 a2 a3 a4 a5 a6).2.1 = fun _ => 1#1)
    (h2 : (Cert.Pre_finite_hits.fn (F := Ideal) a0 a1 a2 a3 a4 a5 a6).2.2.1 = fun _ => 1#1)
    (h3 : (Cert.Pre_finite_hits.fn (F := Ideal) a0 a1 a2 a3 a4 a5 a6).2.2.2 = fun _ => 1#1) :
    (∀ n d, max (a0 (ix2 n d) : EReal) (-(a0 (ix2 n d))) < ⊤) ∧ (∀ n, 0 ≤ (a1 (ix1 n)).toInt)
      ∧ (∀ d r, max (a4 (ix2 d r) : EReal) (-(a4 (ix2 d r))) < ⊤) ∧ (∀ r, max (a5 (ix1 r) : EReal) (-(a5 (ix1 r))) < ⊤) := by
  unfold Cert.Pre_finite_hits.fn at h0 h1 h2 h3
  dsimp only at h0 h1 h2 h3
  refine ⟨fun n d => ?_, fun n => ?_, fun d r => ?_, fun r => ?_⟩
  · have h := congrFun h0 (ix2 n d)
    rw [← w_top]
    exact of_holds h
  · have h := congrFun h1 (ix1 n)
    change IntOp.cmpi .sge (a1 (ix1 n)) 0#32 = 1#1 at h
    simp [IntOp.cmpi, BitVec.sle] at h
    exact of_holds h
  · have h := congrFun h2 (ix2 d r)
    rw [← w_top]
    exact of_holds h
  · have h := congrFun h3 (ix1 r)
    rw [← w_top]
    exact of_holds h

/-- The two sides' results are the same, from arguments as the precondition wants them. -/
theorem agree (m : (b : Idealize.ShloMosaic.Loc Cert.KernelIdeal.nD Cert.KernelIdeal.τ Cert.KernelIdeal.sig) → Buf (Elt Ideal) b)
    (c : Dev Cert.KernelIdeal.nD)
    (e0 : m ((c : Thread Cert.KernelIdeal.nD Cert.KernelIdeal.τ).loc Cert.KernelIdeal.main_arg0) = a0) (e1 : m ((c : Thread Cert.KernelIdeal.nD Cert.KernelIdeal.τ).loc Cert.KernelIdeal.main_arg1) = a1)
    (e2 : m ((c : Thread Cert.KernelIdeal.nD Cert.KernelIdeal.τ).loc Cert.KernelIdeal.main_arg2) = a2) (e3 : m ((c : Thread Cert.KernelIdeal.nD Cert.KernelIdeal.τ).loc Cert.KernelIdeal.main_arg3) = a3)
    (e4 : m ((c : Thread Cert.KernelIdeal.nD Cert.KernelIdeal.τ).loc Cert.KernelIdeal.main_arg4) = a4) (e5 : m ((c : Thread Cert.KernelIdeal.nD Cert.KernelIdeal.τ).loc Cert.KernelIdeal.main_arg5) = a5)
    (hx : ∀ n d, max (a0 (ix2 n d) : EReal) (-(a0 (ix2 n d))) < ⊤) (hy : ∀ n, 0 ≤ (a1 (ix1 n)).toInt)
    (hw : ∀ d r, max (a4 (ix2 d r) : EReal) (-(a4 (ix2 d r))) < ⊤) (hb : ∀ r, max (a5 (ix1 r) : EReal) (-(a5 (ix1 r))) < ⊤) :
    (KernelIdeal.kRes a6 (KernelIdeal.outV m c) : FVec Ideal Cert.ReferenceIdeal.S_ .f32) = Ref.rRes (F := Ideal) a0 a1 a2 a3 a4 a5 a6 := by
  choose o ho0 ho1 ho using fun n : Fin 50000 => score_real (∑ d : Fin 512, a0 (ix2 n d) * a2 (ix2 d 0) + a3 (ix1 0))
  choose xs hxs using fun n d => real_of (hx n d)
  choose ws hws using fun d r => real_of (hw d r)
  choose bs hbs using fun r => real_of (hb r)
  have hX : ∀ n r, ∑ d, a0 (ix2 n d) * a4 (ix2 d r) + a5 (ix1 r) = ((∑ d, xs n d * ws d r + bs r : ℝ) : EReal) := fun n r => by
    simp only [hxs, hws, hbs, ← EReal.coe_mul, coe_sum, ← EReal.coe_add]
  obtain ⟨al, hal, hk⟩ := KernelIdeal.outV_eq (o := o) (X := fun n r => ∑ d, xs n d * ws d r + bs r) (Y := fun n => a1 (ix1 n)) m c ho0
    (fun j => KernelIdeal.carries m c a0 a1 a2 a3 a4 a5 e0 e1 e2 e3 e4 e5 o _ ho hX j)
    (fun j l => by rw [← e1]; exact KernelIdeal.yB_at m c (KernelIdeal.pB j) j l (by simp [KernelIdeal.pB]))
  obtain ⟨al', hal', hr⟩ := Ref.loss_at o (fun n r => ∑ d, xs n d * ws d r + bs r) (Ref.rOf a0 a2 a3) (Ref.rOx a0 a4 a5) a1
    (fun n => by rw [Ref.of_at]; exact ho n) (fun n r => by rw [Ref.ox_at]; exact hX n r) hy
  have hal2 : al = al' := funext fun k => IsAlpha.unique (hal k) (hal' k)
  funext i
  rw [show i = ix0 from funext fun k => k.elim0]
  exact (KernelIdeal.kRes_at _ _).trans (Eq.trans (by rw [hk, hr, hal2]) (Ref.res_at a0 a1 a2 a3 a4 a5 a6).symm)

end

end Cert.Proof
-- ==== Proof.lean ====
/-
  The proof of `Cert.Claim`: the frames of the kernel, at the machine's floats and over the extended reals, and of the
  reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.KLaunch
public import proofs.«01_k».proof.Proof.RefRun
public import proofs.«01_k».proof.Proof.Agree
public import Idealize.ShloMosaic.Lib.Quiescent

@[expose] public section

noncomputable section

namespace Cert.Proof

open Idealize.ShloMosaic Idealize.SL.Sem

/-- The kernel's frame. -/
theorem frame_k : Cert.quiescent_Kernel := fun m ρ _ => Cert.Proof.Kernel.frame m ρ

/-- The frame of the kernel over the extended reals. -/
theorem frame_ki : Cert.quiescent_KernelIdeal := fun m ρ _ => Cert.Proof.KernelIdeal.frame m ρ

/-- The reference's frame: it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.Proof.Ref.run m ρ)

/-- The kernel over the extended reals and the reference leave the same result, where the precondition holds. -/
theorem same : Cert.algebraic_KernelIdeal_ReferenceIdeal_pre_finite_hits (hPre_finite_hits := pre_facts) := fun m g m' g' hp he => by
  refine ⟨fun c => KernelIdeal.kRes (m ((c.tc : Thread Cert.KernelIdeal.nD Cert.KernelIdeal.τ).loc Cert.KernelIdeal.main_arg6))
    (KernelIdeal.outV m c), KernelIdeal.run m g, (θ_run Cert.ReferenceIdeal.defs _ _).mono (fun r h c => ⟨(h c).1.trans ?_, (h c).2⟩)
      (Ref.run m' g')⟩
  obtain ⟨p0, p1, p4, p5⟩ := hp c
  obtain ⟨e0, e1, e2, e3, e4, e5, e6⟩ := he c
  letI := pre_facts
  obtain ⟨hx, hy, hw, hb⟩ := pre_reads _ _ _ _ _ _ _ p0 p1 p4 p5
  unfold Ref.res
  rw [e0, e1, e2, e3, e4, e5, e6]
  exact (agree _ _ _ _ _ _ _ m c rfl rfl rfl rfl rfl rfl hx hy hw hb).symm

/-- The four programs' shape facts, and every claim. -/
theorem claim : Cert.Claim := ⟨Cert.Kernel.Gen.facts, Cert.KernelIdeal.Gen.facts, Cert.ReferenceIdeal.Gen.facts, pre_facts,
  frame_k, frame_ki, fun m ρ _ => Cert.Proof.KernelIdeal.frame m ρ, frame_r, fun m ρ _ => frame_r m ρ trivial, trivial, same⟩

end Cert.Proof

end
